-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnOne (m : (ℓ : Loc Cert.FfnOne.nD Cert.FfnOne.τ Cert.FfnOne.sig) → Buf (Elt Bits) ℓ) : Prop :=
  True

def Pre_FfnOneIdeal (m : (ℓ : Loc Cert.FfnOneIdeal.nD Cert.FfnOneIdeal.τ Cert.FfnOneIdeal.sig) → Buf (Elt Ideal) ℓ) : Prop :=
  True

def Pre_FfnOneReferenceIdeal (m : (ℓ : Loc Cert.FfnOneReferenceIdeal.nD Cert.FfnOneReferenceIdeal.τ Cert.FfnOneReferenceIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnOne [hFfnOne : Cert.FfnOne.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4))
      ∧ r.2.sem = fun _ => 0)

def quiescent_FfnOneIdeal [hFfnOneIdeal : Cert.FfnOneIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ r.2.sem = fun _ => 0)

def quiescent_FfnOneReferenceIdeal [hFfnOneReferenceIdeal : Cert.FfnOneReferenceIdeal.Facts] : Prop :=
  ∀ (m : (ℓ : Loc Cert.FfnOneReferenceIdeal.nD Cert.FfnOneReferenceIdeal.τ Cert.FfnOneReferenceIdeal.sig) → Buf (Elt Ideal) ℓ) (g : Dev Cert.FfnOneReferenceIdeal.nD → PrngReg), Pre_FfnOneReferenceIdeal m →
    θ_run (Cert.FfnOneReferenceIdeal.defs (F := Ideal)) (onTc (τ := Cert.FfnOneReferenceIdeal.τ) (Cert.FfnOneReferenceIdeal.main (F := Ideal))) ⟨m, fun _ => 0, g⟩ (fun r => (∀ c : Dev Cert.FfnOneReferenceIdeal.nD,
      r.2.mem ((c.tc : Thread Cert.FfnOneReferenceIdeal.nD Cert.FfnOneReferenceIdeal.τ).loc Cert.FfnOneReferenceIdeal.main_arg0) = m ((c.tc : Thread Cert.FfnOneReferenceIdeal.nD Cert.FfnOneReferenceIdeal.τ).loc Cert.FfnOneReferenceIdeal.main_arg0)
      ∧ r.2.mem ((c.tc : Thread Cert.FfnOneReferenceIdeal.nD Cert.FfnOneReferenceIdeal.τ).loc Cert.FfnOneReferenceIdeal.main_arg1) = m ((c.tc : Thread Cert.FfnOneReferenceIdeal.nD Cert.FfnOneReferenceIdeal.τ).loc Cert.FfnOneReferenceIdeal.main_arg1)
      ∧ r.2.mem ((c.tc : Thread Cert.FfnOneReferenceIdeal.nD Cert.FfnOneReferenceIdeal.τ).loc Cert.FfnOneReferenceIdeal.main_arg2) = m ((c.tc : Thread Cert.FfnOneReferenceIdeal.nD Cert.FfnOneReferenceIdeal.τ).loc Cert.FfnOneReferenceIdeal.main_arg2)
      ∧ r.2.mem ((c.tc : Thread Cert.FfnOneReferenceIdeal.nD Cert.FfnOneReferenceIdeal.τ).loc Cert.FfnOneReferenceIdeal.main_arg3) = m ((c.tc : Thread Cert.FfnOneReferenceIdeal.nD Cert.FfnOneReferenceIdeal.τ).loc Cert.FfnOneReferenceIdeal.main_arg3)
      ∧ r.2.mem ((c.tc : Thread Cert.FfnOneReferenceIdeal.nD Cert.FfnOneReferenceIdeal.τ).loc Cert.FfnOneReferenceIdeal.main_arg4) = m ((c.tc : Thread Cert.FfnOneReferenceIdeal.nD Cert.FfnOneReferenceIdeal.τ).loc Cert.FfnOneReferenceIdeal.main_arg4))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7)
      ∧ r.2.mem ((c.tc : Thread Cert.FinishReferenceIdeal.nD Cert.FinishReferenceIdeal.τ).loc Cert.FinishReferenceIdeal.main_arg8) = m ((c.tc : Thread Cert.FinishReferenceIdeal.nD Cert.FinishReferenceIdeal.τ).loc Cert.FinishReferenceIdeal.main_arg8))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v17) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnOne_FfnOneIdeal : Prop :=
  True

def algebraic_FfnOneIdeal_FfnOneReferenceIdeal [hFfnOneIdeal : Cert.FfnOneIdeal.Facts] [hFfnOneReferenceIdeal : Cert.FfnOneReferenceIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneReferenceIdeal.nD Cert.FfnOneReferenceIdeal.τ Cert.FfnOneReferenceIdeal.sig) → Buf (Elt Ideal) ℓ) (g' : Dev Cert.FfnOneReferenceIdeal.nD → PrngReg), Pre_FfnOneIdeal m →
    (∀ c : Dev Cert.FfnOneIdeal.nD,
      m' ((c.tc : Thread Cert.FfnOneReferenceIdeal.nD Cert.FfnOneReferenceIdeal.τ).loc Cert.FfnOneReferenceIdeal.main_arg0) = m ((c.tc : Thread Cert.FfnOneIdeal.nD Cert.FfnOneIdeal.τ).loc Cert.FfnOneIdeal.main_arg0)
      ∧ m' ((c.tc : Thread Cert.FfnOneReferenceIdeal.nD Cert.FfnOneReferenceIdeal.τ).loc Cert.FfnOneReferenceIdeal.main_arg1) = m ((c.tc : Thread Cert.FfnOneIdeal.nD Cert.FfnOneIdeal.τ).loc Cert.FfnOneIdeal.main_arg1)
      ∧ m' ((c.tc : Thread Cert.FfnOneReferenceIdeal.nD Cert.FfnOneReferenceIdeal.τ).loc Cert.FfnOneReferenceIdeal.main_arg2) = m ((c.tc : Thread Cert.FfnOneIdeal.nD Cert.FfnOneIdeal.τ).loc Cert.FfnOneIdeal.main_arg2)
      ∧ m' ((c.tc : Thread Cert.FfnOneReferenceIdeal.nD Cert.FfnOneReferenceIdeal.τ).loc Cert.FfnOneReferenceIdeal.main_arg3) = m ((c.tc : Thread Cert.FfnOneIdeal.nD Cert.FfnOneIdeal.τ).loc Cert.FfnOneIdeal.main_arg3)
      ∧ m' ((c.tc : Thread Cert.FfnOneReferenceIdeal.nD Cert.FfnOneReferenceIdeal.τ).loc Cert.FfnOneReferenceIdeal.main_arg4) = m ((c.tc : Thread Cert.FfnOneIdeal.nD Cert.FfnOneIdeal.τ).loc Cert.FfnOneIdeal.main_arg4)) →
    ∃ (v0 : (c : Dev Cert.FfnOneIdeal.nD) → Buf (Elt Ideal) ((c.tc : Thread Cert.FfnOneIdeal.nD Cert.FfnOneIdeal.τ).loc Cert.FfnOneIdeal.main_v1)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v1) = v0 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ θ_run (Cert.FfnOneReferenceIdeal.defs (F := Ideal)) (onTc (τ := Cert.FfnOneReferenceIdeal.τ) (Cert.FfnOneReferenceIdeal.main (F := Ideal))) ⟨m', fun _ => 0, g'⟩ (fun r => ∀ c : Dev Cert.FfnOneReferenceIdeal.nD,
          r.2.mem ((c.tc : Thread Cert.FfnOneReferenceIdeal.nD Cert.FfnOneReferenceIdeal.τ).loc Cert.FfnOneReferenceIdeal.main_v17) = v0 c
          ∧ r.2.mem ((c.tc : Thread Cert.FfnOneReferenceIdeal.nD Cert.FfnOneReferenceIdeal.τ).loc Cert.FfnOneReferenceIdeal.main_arg0) = m' ((c.tc : Thread Cert.FfnOneReferenceIdeal.nD Cert.FfnOneReferenceIdeal.τ).loc Cert.FfnOneReferenceIdeal.main_arg0)
          ∧ r.2.mem ((c.tc : Thread Cert.FfnOneReferenceIdeal.nD Cert.FfnOneReferenceIdeal.τ).loc Cert.FfnOneReferenceIdeal.main_arg1) = m' ((c.tc : Thread Cert.FfnOneReferenceIdeal.nD Cert.FfnOneReferenceIdeal.τ).loc Cert.FfnOneReferenceIdeal.main_arg1)
          ∧ r.2.mem ((c.tc : Thread Cert.FfnOneReferenceIdeal.nD Cert.FfnOneReferenceIdeal.τ).loc Cert.FfnOneReferenceIdeal.main_arg2) = m' ((c.tc : Thread Cert.FfnOneReferenceIdeal.nD Cert.FfnOneReferenceIdeal.τ).loc Cert.FfnOneReferenceIdeal.main_arg2)
          ∧ r.2.mem ((c.tc : Thread Cert.FfnOneReferenceIdeal.nD Cert.FfnOneReferenceIdeal.τ).loc Cert.FfnOneReferenceIdeal.main_arg3) = m' ((c.tc : Thread Cert.FfnOneReferenceIdeal.nD Cert.FfnOneReferenceIdeal.τ).loc Cert.FfnOneReferenceIdeal.main_arg3)
          ∧ r.2.mem ((c.tc : Thread Cert.FfnOneReferenceIdeal.nD Cert.FfnOneReferenceIdeal.τ).loc Cert.FfnOneReferenceIdeal.main_arg4) = m' ((c.tc : Thread Cert.FfnOneReferenceIdeal.nD Cert.FfnOneReferenceIdeal.τ).loc Cert.FfnOneReferenceIdeal.main_arg4))

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)
      ∧ m' ((c.tc : Thread Cert.FinishReferenceIdeal.nD Cert.FinishReferenceIdeal.τ).loc Cert.FinishReferenceIdeal.main_arg5) = m ((c.tc : Thread Cert.FinishIdeal.nD Cert.FinishIdeal.τ).loc Cert.FinishIdeal.main_arg5)
      ∧ m' ((c.tc : Thread Cert.FinishReferenceIdeal.nD Cert.FinishReferenceIdeal.τ).loc Cert.FinishReferenceIdeal.main_arg6) = m ((c.tc : Thread Cert.FinishIdeal.nD Cert.FinishIdeal.τ).loc Cert.FinishIdeal.main_arg6)
      ∧ m' ((c.tc : Thread Cert.FinishReferenceIdeal.nD Cert.FinishReferenceIdeal.τ).loc Cert.FinishReferenceIdeal.main_arg7) = m ((c.tc : Thread Cert.FinishIdeal.nD Cert.FinishIdeal.τ).loc Cert.FinishIdeal.main_arg7)
      ∧ m' ((c.tc : Thread Cert.FinishReferenceIdeal.nD Cert.FinishReferenceIdeal.τ).loc Cert.FinishReferenceIdeal.main_arg8) = m ((c.tc : Thread Cert.FinishIdeal.nD Cert.FinishIdeal.τ).loc Cert.FinishIdeal.main_arg8)) →
    ∃ (v0 : (c : Dev Cert.FinishIdeal.nD) → Buf (Elt Ideal) ((c.tc : Thread Cert.FinishIdeal.nD Cert.FinishIdeal.τ).loc Cert.FinishIdeal.main_v9)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v9) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v48) = v0 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4)
          ∧ r.2.mem ((c.tc : Thread Cert.FinishReferenceIdeal.nD Cert.FinishReferenceIdeal.τ).loc Cert.FinishReferenceIdeal.main_arg5) = m' ((c.tc : Thread Cert.FinishReferenceIdeal.nD Cert.FinishReferenceIdeal.τ).loc Cert.FinishReferenceIdeal.main_arg5)
          ∧ r.2.mem ((c.tc : Thread Cert.FinishReferenceIdeal.nD Cert.FinishReferenceIdeal.τ).loc Cert.FinishReferenceIdeal.main_arg6) = m' ((c.tc : Thread Cert.FinishReferenceIdeal.nD Cert.FinishReferenceIdeal.τ).loc Cert.FinishReferenceIdeal.main_arg6)
          ∧ r.2.mem ((c.tc : Thread Cert.FinishReferenceIdeal.nD Cert.FinishReferenceIdeal.τ).loc Cert.FinishReferenceIdeal.main_arg7) = m' ((c.tc : Thread Cert.FinishReferenceIdeal.nD Cert.FinishReferenceIdeal.τ).loc Cert.FinishReferenceIdeal.main_arg7)
          ∧ r.2.mem ((c.tc : Thread Cert.FinishReferenceIdeal.nD Cert.FinishReferenceIdeal.τ).loc Cert.FinishReferenceIdeal.main_arg8) = m' ((c.tc : Thread Cert.FinishReferenceIdeal.nD Cert.FinishReferenceIdeal.τ).loc Cert.FinishReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnOne : Cert.FfnOne.Facts) (hFfnOneIdeal : Cert.FfnOneIdeal.Facts) (hFfnOneReferenceIdeal : Cert.FfnOneReferenceIdeal.Facts) (hFinish : Cert.Finish.Facts) (hFinishIdeal : Cert.FinishIdeal.Facts) (hFinishReferenceIdeal : Cert.FinishReferenceIdeal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnOne (hFfnOne := hFfnOne)
    ∧ quiescent_FfnOneIdeal (hFfnOneIdeal := hFfnOneIdeal)
    ∧ quiescent_FfnOneReferenceIdeal (hFfnOneReferenceIdeal := hFfnOneReferenceIdeal)
    ∧ quiescent_Finish (hFinish := hFinish)
    ∧ quiescent_FinishIdeal (hFinishIdeal := hFinishIdeal)
    ∧ quiescent_FinishReferenceIdeal (hFinishReferenceIdeal := hFinishReferenceIdeal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Ffn_FfnIdeal
    ∧ algebraic_FfnIdeal_FfnReferenceIdeal (hFfnIdeal := hFfnIdeal) (hFfnReferenceIdeal := hFfnReferenceIdeal)
    ∧ preserves_FfnOne_FfnOneIdeal
    ∧ algebraic_FfnOneIdeal_FfnOneReferenceIdeal (hFfnOneIdeal := hFfnOneIdeal) (hFfnOneReferenceIdeal := hFfnOneReferenceIdeal)
    ∧ preserves_Finish_FinishIdeal
    ∧ algebraic_FinishIdeal_FinishReferenceIdeal (hFinishIdeal := hFinishIdeal) (hFinishReferenceIdeal := hFinishReferenceIdeal)
-- ==== Pre_finite_values.lean ====
abbrev S8192x1024 : Shape := ⟨2, ![8192, 1024]⟩
abbrev S256x1024 : Shape := ⟨2, ![256, 1024]⟩
abbrev S1024x256 : Shape := ⟨2, ![1024, 256]⟩
abbrev S1024x8192 : Shape := ⟨2, ![1024, 8192]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg7 : FVec F S1x64 .f32) (main_arg8 : FVec F S1x64 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S1x64 .f32 := Host.absf main_arg7
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_c_7 : IVec S_ 1 := constantI S_ 1 1#1
  let main_v24 : IVec S_ 1 := (fun x v => Host.reduce IntOp.andi x v reducesTo_S1x64_S_d0_1 h_S_) main_v23 main_c_7
  let main_v25 : IVec S_ 1 := andi main_v20 main_v24
  let main_v26 : FVec F S1x64 .f32 := Host.absf main_arg8
  let main_cst_8 : FVec F S_ .f32 := constant S_ .f32 0x7F800000#32
  let main_v27 : FVec F S1x64 .f32 := broadcastInDim S1x64 ![] bcast_S_S1x64 main_cst_8
  let main_v28 : IVec S1x64 1 := cmpf .olt main_v26 main_v27
  let main_c_9 : IVec S_ 1 := constantI S_ 1 1#1
  let main_v29 : IVec S_ 1 := (fun x v => Host.reduce IntOp.andi x v reducesTo_S1x64_S_d0_1 h_S_) main_v28 main_c_9
  let main_v30 : IVec S_ 1 := andi main_v25 main_v29
  main_v30

def fn {F : FTy → Type} [FloatOps F] (main_arg0 : FVec F S8192x1024 .bf16) (main_arg1 : FVec F S256x1024 .bf16) (main_arg2 : FVec F S8192x1024 .bf16) (main_arg3 : FVec F S1024x256 .bf16) (main_arg4 : FVec F S1024x8192 .bf16) (main_arg5 : FVec F S1x64 .f32) (main_arg6 : FVec F S1x64 .f32) (main_arg7 : FVec F S1x64 .f32) (main_arg8 : FVec F S1x64 .f32) (main_arg9 : FVec F S1x128 .f32) : IVec S_ 1 :=
  let main_v0 : FVec F S1024x256 .f32 := (extf .f32 · bitsLt_bf16_f32) main_arg3
  let main_v1 : FVec F S1024x256 .f32 := Host.absf main_v0
  let main_cst : FVec F S_ .f32 := constant S_ .f32 0x7F800000#32
  let main_v2 : FVec F S1024x256 .f32 := broadcastInDim S1024x256 ![] bcast_S_S1024x256 main_cst
  let main_v3 : IVec S1024x256 1 := cmpf .olt main_v1 main_v2
  let main_c : IVec S_ 1 := constantI S_ 1 1#1
  let main_v4 : IVec S_ 1 := (fun x v => Host.reduce IntOp.andi x v reducesTo_S1024x256_S_d0_1 h_S_) main_v3 main_c
  let main_v5 : FVec F S1024x8192 .f32 := (extf .f32 · bitsLt_bf16_f32) main_arg4
  let main_v6 : FVec F S1024x8192 .f32 := Host.absf main_v5
  let main_cst_0 : FVec F S_ .f32 := constant S_ .f32 0x7F800000#32
  let main_v7 : FVec F S1024x8192 .f32 := broadcastInDim S1024x8192 ![] bcast_S_S1024x8192 main_cst_0
  let main_v8 : IVec S1024x8192 1 := cmpf .olt main_v6 main_v7
  let main_c_1 : IVec S_ 1 := constantI S_ 1 1#1
  let main_v9 : IVec S_ 1 := (fun x v => Host.reduce IntOp.andi x v reducesTo_S1024x8192_S_d0_1 h_S_) main_v8 main_c_1
  let main_v10 : IVec S_ 1 := andi main_v4 main_v9
  let main_v11 : FVec F S1x64 .f32 := Host.absf main_arg5
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  let main_v16 : FVec F S1x64 .f32 := Host.absf main_arg6
  let main_cst_4 : FVec F S_ .f32 := constant S_ .f32 0x7F800000#32
  fn_part1 (F := F) main_arg7 main_arg8 main_v15 main_v16 main_cst_4
-- ==== Kernel.lean ====
abbrev S8192x1024 : Shape := ⟨2, ![8192, 1024]⟩
abbrev S256x1024 : Shape := ⟨2, ![256, 1024]⟩
abbrev S1024x256 : Shape := ⟨2, ![1024, 256]⟩
abbrev S1024x8192 : Shape := ⟨2, ![1024, 8192]⟩
abbrev S1x64 : Shape := ⟨2, ![1, 64]⟩
abbrev S1x128 : Shape := ⟨2, ![1, 128]⟩
abbrev S_ : Shape := ⟨0, ![]⟩
abbrev S8x128 : Shape := ⟨2, ![8, 128]⟩
abbrev S64 : Shape := ⟨1, ![64]⟩
abbrev S1 : Shape := ⟨1, ![1]⟩
abbrev S2 : Shape := ⟨1, ![2]⟩
abbrev S128 : Shape := ⟨1, ![128]⟩
abbrev S8192x128 : Shape := ⟨2, ![8192, 128]⟩
abbrev S256x128 : Shape := ⟨2, ![256, 128]⟩
abbrev S128x256 : Shape := ⟨2, ![128, 256]⟩
abbrev S128x8192 : Shape := ⟨2, ![128, 8192]⟩
abbrev S1x1024 : Shape := ⟨2, ![1, 1024]⟩
abbrev S144x1024 : Shape := ⟨2, ![144, 1024]⟩
abbrev S128x1024 : Shape := ⟨2, ![128, 1024]⟩
abbrev S1408x1024 : Shape := ⟨2, ![1408, 1024]⟩
abbrev S8448x128 : Shape := ⟨2, ![8448, 128]⟩
abbrev S128x8448 : Shape := ⟨2, ![128, 8448]⟩
abbrev S16x1408 : Shape := ⟨2, ![16, 1408]⟩
abbrev S1x1 : Shape := ⟨2, ![1, 1]⟩
abbrev S512x128 : Shape := ⟨2, ![512, 128]⟩
abbrev S128x512 : Shape := ⟨2, ![128, 512]⟩
abbrev S1408x128 : Shape := ⟨2, ![1408, 128]⟩
abbrev S128x1408 : Shape := ⟨2, ![128, 1408]⟩
abbrev S144x1408 : Shape := ⟨2, ![144, 1408]⟩
abbrev S1024 : Shape := ⟨1, ![1024]⟩
abbrev S512 : Shape := ⟨1, ![512]⟩
abbrev S512x1 : Shape := ⟨2, ![512, 1]⟩

abbrev nBuf : Space → Nat
  | .hbm => 43
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S8192x1024, .bf16⟩
  | .hbm, ⟨3, _⟩ => ⟨S1024x256, .bf16⟩
  | .hbm, ⟨4, _⟩ => ⟨S1024x8192, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S_, .f32⟩
  | .hbm, ⟨11, _⟩ => ⟨S8x128, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S8x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S8x128, .f32⟩
  | .hbm, ⟨40, _⟩ => ⟨S128, .f32⟩
  | .hbm, ⟨41, _⟩ => ⟨S1x128, .f32⟩
  | .hbm, ⟨42, _⟩ => ⟨S8192x1024, .bf16⟩
  | .local _ .vmem, ⟨0, _⟩ => ⟨S8192x128, .bf16⟩
  | .local _ .vmem, ⟨1, _⟩ => ⟨S8192x128, .bf16⟩
  | .local _ .vmem, ⟨2, _⟩ => ⟨S256x128, .bf16⟩
  | .local _ .vmem, ⟨3, _⟩ => ⟨S256x128, .bf16⟩
  | .local _ .vmem, ⟨4, _⟩ => ⟨S8192x128, .bf16⟩
  | .local _ .vmem, ⟨5, _⟩ => ⟨S8192x128, .bf16⟩
  | .local _ .vmem, ⟨6, _⟩ => ⟨S128x256, .bf16⟩
  | .local _ .vmem, ⟨7, _⟩ => ⟨S128x256, .bf16⟩
  | .local _ .vmem, ⟨8, _⟩ => ⟨S128x8192, .bf16⟩
  | .local _ .vmem, ⟨9, _⟩ => ⟨S128x8192, .bf16⟩
  | .local _ .vmem, ⟨10, _⟩ => ⟨S8x128, .f32⟩
  | .local _ .vmem, ⟨11, _⟩ => ⟨S1x128, .f32⟩
  | .local _ .vmem, ⟨12, _⟩ => ⟨S8192x128, .bf16⟩
  | .local _ .vmem, ⟨13, _⟩ => ⟨S8192x128, .bf16⟩
  | .local _ .vmem, ⟨14, _⟩ => ⟨S1x1024, .f32⟩
  | .local _ .vmem, ⟨15, _⟩ => ⟨S144x1024, .f32⟩
  | .local _ .vmem, ⟨16, _⟩ => ⟨S128x1024, .bf16⟩
  | .local _ .vmem, ⟨17, _⟩ => ⟨S1408x1024, .f32⟩
  | .local _ .vmem, ⟨18, _⟩ => ⟨S1408x1024, .f32⟩
  | .local _ .vmem, ⟨19, _⟩ => ⟨S8448x128, .bf16⟩
  | .local _ .vmem, ⟨20, _⟩ => ⟨S128x8448, .bf16⟩
  | .local _ .vmem, ⟨21, _⟩ => ⟨S144x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  c0_i32
def k0_mult2 : BitVec 32 :=
  let c0_i32_26 : BitVec 32 := 0#32
  c0_i32_26
@[reducible] def k0_t1_loop : Scf.Loop 32 :=
  let c0_i32_34 : BitVec 32 := 0#32
  let c16_i32 : BitVec 32 := 16#32
  let v64 : BitVec 32 := Scalar.addi c0_i32_34 c16_i32
  let c1_i32 : BitVec 32 := 1#32
  ⟨c0_i32_34, v64, c1_i32⟩
def k0_mult3 (k0_t1 : Fin k0_t1_loop.trips) : BitVec 32 :=
  let c0_i32_34 : BitVec 32 := 0#32
  let c1_i32 : BitVec 32 := 1#32
  let arg17 : BitVec 32 := Scf.iv c0_i32_34 c1_i32 k0_t1
  let c1_i32_53 : BitVec 32 := 1#32
  let v105 : BitVec 32 := Scalar.addi arg17 c1_i32_53
  let c15_i32 : BitVec 32 := 15#32
  let v106 : BitVec 32 := Scalar.minsi v105 c15_i32
  let c512_i32 : BitVec 32 := 512#32
  let v107 : BitVec 32 := Scalar.muli v106 c512_i32
  v107
def k0_off1 (k0_t1 : Fin k0_t1_loop.trips) : Fin 2 → Nat :=
  let c0_i32_34 : BitVec 32 := 0#32
  let c1_i32 : BitVec 32 := 1#32
  let arg17 : BitVec 32 := Scf.iv c0_i32_34 c1_i32 k0_t1
  let c1_i32_53 : BitVec 32 := 1#32
  let v105 : BitVec 32 := Scalar.addi arg17 c1_i32_53
  let c15_i32 : BitVec 32 := 15#32
  let v106 : BitVec 32 := Scalar.minsi v105 c15_i32
  let c512_i32 : BitVec 32 := 512#32
  let v107 : BitVec 32 := Scalar.muli v106 c512_i32
  let v108 : BitVec 32 := v107
  let v109 : Index := Scalar.indexCast v108
  let c0_54 : Index := 0#32
  ![v109.toNat, 0]
@[reducible] def k0_t2_loop : Scf.Loop 32 :=
  let c0_i32_58 : BitVec 32 := 0#32
  let c2_i32 : BitVec 32 := 2#32
  let v123 : BitVec 32 := Scalar.addi c0_i32_58 c2_i32
  let c1_i32_59 : BitVec 32 := 1#32
  ⟨c0_i32_58, v123, c1_i32_59⟩
def k0_mult4 (k0_t2 : Fin k0_t2_loop.trips) : BitVec 32 :=
  let c2_i32_115 : BitVec 32 := 2#32
  let c0_i32_58 : BitVec 32 := 0#32
  let c1_i32_59 : BitVec 32 := 1#32
  let arg18 : BitVec 32 := Scf.iv c0_i32_58 c1_i32_59 k0_t2
  let v231 : BitVec 32 := Scalar.muli c2_i32_115 arg18
  let c1_i32_116 : BitVec 32 := 1#32
  let v232 : BitVec 32 := Scalar.addi v231 c1_i32_116
  let c1408_i32 : BitVec 32 := 1408#32
  let v233 : BitVec 32 := Scalar.muli v232 c1408_i32
  v233
def k0_off2 (k0_t2 : Fin k0_t2_loop.trips) (c1_i32_116 : BitVec 32) : Fin 2 → Nat :=
  let c2_i32_115 : BitVec 32 := 2#32
  let c0_i32_58 : BitVec 32 := 0#32
  let c1_i32_59 : BitVec 32 := 1#32
  let arg18 : BitVec 32 := Scf.iv c0_i32_58 c1_i32_59 k0_t2
  let v231 : BitVec 32 := Scalar.muli c2_i32_115 arg18
  let v232 : BitVec 32 := Scalar.addi v231 c1_i32_116
  let c1408_i32 : BitVec 32 := 1408#32
  let v233 : BitVec 32 := Scalar.muli v232 c1408_i32
  let v234 : BitVec 32 := v233
  let v235 : Index := Scalar.indexCast v234
  let c0_117 : Index := 0#32
  ![v235.toNat, 0]
def k0_mult5 (k0_t2 : Fin k0_t2_loop.trips) : BitVec 32 :=
  let c2_i32_115 : BitVec 32 := 2#32
  let c0_i32_58 : BitVec 32 := 0#32
  let c1_i32_59 : BitVec 32 := 1#32
  let arg18 : BitVec 32 := Scf.iv c0_i32_58 c1_i32_59 k0_t2
  let v231 : BitVec 32 := Scalar.muli c2_i32_115 arg18
  let c1408_i32_123 : BitVec 32 := 1408#32
  let v242 : BitVec 32 := Scalar.muli v231 c1408_i32_123
  v242
def k0_off3 (k0_t2 : Fin k0_t2_loop.trips) : Fin 2 → Nat :=
  let c0_124 : Index := 0#32
  let c2_i32_115 : BitVec 32 := 2#32
  let c0_i32_58 : BitVec 32 := 0#32
  let c1_i32_59 : BitVec 32 := 1#32
  let arg18 : BitVec 32 := Scf.iv c0_i32_58 c1_i32_59 k0_t2
  let v231 : BitVec 32 := Scalar.muli c2_i32_115 arg18
  let c1408_i32_123 : BitVec 32 := 1408#32
  let v242 : BitVec 32 := Scalar.muli v231 c1408_i32_123
  let v243 : BitVec 32 := v242
  let v244 : Index := Scalar.indexCast v243
  ![0, v244.toNat]
def k0_mult6 (k0_t2 : Fin k0_t2_loop.trips) : BitVec 32 :=
  let c2_i32_115 : BitVec 32 := 2#32
  let c0_i32_58 : BitVec 32 := 0#32
  let c1_i32_59 : BitVec 32 := 1#32
  let arg18 : BitVec 32 := Scf.iv c0_i32_58 c1_i32_59 k0_t2
  let v231 : BitVec 32 := Scalar.muli c2_i32_115 arg18
  let c2_i32_135 : BitVec 32 := 2#32
  let v268 : BitVec 32 := Scalar.addi v231 c2_i32_135
  let c1408_i32_136 : BitVec 32 := 1408#32
  let v269 : BitVec 32 := Scalar.muli v268 c1408_i32_136
  v269
def k0_mult7 (k0_t2 : Fin k0_t2_loop.trips) : BitVec 32 :=
  let c2_i32_115 : BitVec 32 := 2#32
  let c0_i32_58 : BitVec 32 := 0#32
  let c1_i32_59 : BitVec 32 := 1#32
  let arg18 : BitVec 32 := Scf.iv c0_i32_58 c1_i32_59 k0_t2
  let v231 : BitVec 32 := Scalar.muli c2_i32_115 arg18
  let c1_i32_143 : BitVec 32 := 1#32
  let v278 : BitVec 32 := Scalar.addi v231 c1_i32_143
  let c1408_i32_144 : BitVec 32 := 1408#32
  let v279 : BitVec 32 := Scalar.muli v278 c1408_i32_144
  v279
def k0_off4 (k0_t2 : Fin k0_t2_loop.trips) : Fin 2 → Nat :=
  let c0_145 : Index := 0#32
  let c2_i32_115 : BitVec 32 := 2#32
  let c0_i32_58 : BitVec 32 := 0#32
  let c1_i32_59 : BitVec 32 := 1#32
  let arg18 : BitVec 32 := Scf.iv c0_i32_58 c1_i32_59 k0_t2
  let v231 : BitVec 32 := Scalar.muli c2_i32_115 arg18
  let c1_i32_143 : BitVec 32 := 1#32
  let v278 : BitVec 32 := Scalar.addi v231 c1_i32_143
  let c1408_i32_144 : BitVec 32 := 1408#32
  let v279 : BitVec 32 := Scalar.muli v278 c1408_i32_144
  let v280 : BitVec 32 := v279
  let v281 : Index := Scalar.indexCast v280
  ![0, v281.toNat]
def k0_mult8 : BitVec 32 :=
  let c7040_i32 : BitVec 32 := 7040#32
  c7040_i32
def k0_mult9 : BitVec 32 :=
  let c5632_i32 : BitVec 32 := 5632#32
  c5632_i32
def k0_mult10 : BitVec 32 :=
  let c0_i32_78 : BitVec 32 := 0#32
  c0_i32_78
def k0_mult11 (k0_t1 : Fin k0_t1_loop.trips) : BitVec 32 :=
  let c0_i32_34 : BitVec 32 := 0#32
  let c1_i32 : BitVec 32 := 1#32
  let arg17 : BitVec 32 := Scf.iv c0_i32_34 c1_i32 k0_t1
  let c1_i32_85 : BitVec 32 := 1#32
  let v165 : BitVec 32 := Scalar.subi arg17 c1_i32_85
  let c0_i32_86 : BitVec 32 := 0#32
  let v166 : BitVec 32 := Scalar.maxsi v165 c0_i32_86
  let c512_i32_93 : BitVec 32 := 512#32
  let v194 : BitVec 32 := Scalar.muli v166 c512_i32_93
  v194
def k0_off5 (k0_t1 : Fin k0_t1_loop.trips) : Fin 2 → Nat :=
  let c0_i32_34 : BitVec 32 := 0#32
  let c1_i32 : BitVec 32 := 1#32
  let arg17 : BitVec 32 := Scf.iv c0_i32_34 c1_i32 k0_t1
  let c1_i32_85 : BitVec 32 := 1#32
  let v165 : BitVec 32 := Scalar.subi arg17 c1_i32_85
  let c0_i32_86 : BitVec 32 := 0#32
  let v166 : BitVec 32 := Scalar.maxsi v165 c0_i32_86
  let c512_i32_93 : BitVec 32 := 512#32
  let v194 : BitVec 32 := Scalar.muli v166 c512_i32_93
  let v195 : BitVec 32 := v194
  let v196 : Index := Scalar.indexCast v195
  let c0_94 : Index := 0#32
  ![v196.toNat, 0]
def k0_mult12 : BitVec 32 :=
  let c7040_i32_97 : BitVec 32 := 7040#32
  c7040_i32_97
def k0_mult13 : BitVec 32 :=
  let c7680_i32 : BitVec 32 := 7680#32
  c7680_i32
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x1024 : Shape := ⟨2, ![8192, 1024]⟩
abbrev S256x1024 : Shape := ⟨2, ![256, 1024]⟩
abbrev S1024x256 : Shape := ⟨2, ![1024, 256]⟩
abbrev S1024x8192 : Shape := ⟨2, ![1024, 8192]⟩
abbrev S1x64 : Shape := ⟨2, ![1, 64]⟩
abbrev S1x128 : Shape := ⟨2, ![1, 128]⟩
abbrev S64 : Shape := ⟨1, ![64]⟩
abbrev S_ : Shape := ⟨0, ![]⟩
abbrev S8192x8x2x64 : Shape := ⟨4, ![8192, 8, 2, 64]⟩
abbrev S8448x1024 : Shape := ⟨2, ![8448, 1024]⟩
abbrev S8448x8x2x64 : Shape := ⟨4, ![8448, 8, 2, 64]⟩
abbrev S8448x8x128 : Shape := ⟨3, ![8448, 8, 128]⟩
abbrev S8x2x8192x8448 : Shape := ⟨4, ![8, 2, 8192, 8448]⟩
abbrev S8x2x8192 : Shape := ⟨3, ![8, 2, 8192]⟩
abbrev S8x2x8192x1 : Shape := ⟨4, ![8, 2, 8192, 1]⟩
abbrev S8x1x8192x8448 : Shape := ⟨4, ![8, 1, 8192, 8448]⟩
abbrev S8x8192x8448 : Shape := ⟨3, ![8, 8192, 8448]⟩
abbrev S8x128x8192 : Shape := ⟨3, ![8, 128, 8192]⟩
abbrev S8192x8x128 : Shape := ⟨3, ![8192, 8, 128]⟩
abbrev S8192x8 : Shape := ⟨2, ![8192, 8]⟩
abbrev S8192x8x1 : Shape := ⟨3, ![8192, 8, 1]⟩
abbrev S128 : Shape := ⟨1, ![128]⟩
abbrev S1x1x128 : Shape := ⟨3, ![1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S8192x1024, .bf16⟩
  | .hbm, ⟨3, _⟩ => ⟨S1024x256, .bf16⟩
  | .hbm, ⟨4, _⟩ => ⟨S1024x8192, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x1024, .f32⟩
  | .hbm, ⟨26, _⟩ => ⟨S8192x8x2x64, .f32⟩
  | .hbm, ⟨27, _⟩ => ⟨S8448x1024, .bf16⟩
  | .hbm, ⟨28, _⟩ => ⟨S8448x1024, .f32⟩
  | .hbm, ⟨29, _⟩ => ⟨S8448x8x2x64, .f32⟩
  | .hbm, ⟨30, _⟩ => ⟨S256x1024, .bf16⟩
  | .hbm, ⟨31, _⟩ => ⟨S8192x1024, .bf16⟩
  | .hbm, ⟨32, _⟩ => ⟨S8448x1024, .bf16⟩
  | .hbm, ⟨33, _⟩ => ⟨S8448x1024, .f32⟩
  | .hbm, ⟨34, _⟩ => ⟨S8448x8x128, .f32⟩
  | .hbm, ⟨35, _⟩ => ⟨S8x2x8192x8448, .f32⟩
  | .hbm, ⟨36, _⟩ => ⟨S_, .f32⟩
  | .hbm, ⟨37, _⟩ => ⟨S_, .f32⟩
  | .hbm, ⟨38, _⟩ => ⟨S8x2x8192x8448, .f32⟩
  | .hbm, ⟨39, _⟩ => ⟨S8x2x8192x8448, .f32⟩
  | .hbm, ⟨40, _⟩ => ⟨S_, .f32⟩
  | .hbm, ⟨41, _⟩ => ⟨S8x2x8192, .f32⟩
  | .hbm, ⟨42, _⟩ => ⟨S_, .f32⟩
  | .hbm, ⟨43, _⟩ => ⟨S8x2x8192, .f32⟩
  | .hbm, ⟨44, _⟩ => ⟨S8x2x8192, .f32⟩
  | .hbm, ⟨45, _⟩ => ⟨S8x2x8192x1, .f32⟩
  | .hbm, ⟨46, _⟩ => ⟨S8x2x8192x8448, .f32⟩
  | .hbm, ⟨47, _⟩ => ⟨S8x2x8192x8448, .f32⟩
  | .hbm, ⟨48, _⟩ => ⟨S8x2x8192x8448, .f32⟩
  | .hbm, ⟨49, _⟩ => ⟨S_, .f32⟩
  | .hbm, ⟨50, _⟩ => ⟨S8x2x8192, .f32⟩
  | .hbm, ⟨51, _⟩ => ⟨S8x2x8192x1, .f32⟩
  | .hbm, ⟨52, _⟩ => ⟨S8x2x8192x8448, .f32⟩
  | .hbm, ⟨53, _⟩ => ⟨S8x2x8192x8448, .f32⟩
  | .hbm, ⟨54, _⟩ => ⟨S8x1x8192x8448, .f32⟩
  | .hbm, ⟨55, _⟩ => ⟨S8x8192x8448, .f32⟩
  | .hbm, ⟨56, _⟩ => ⟨S8x1x8192x8448, .f32⟩
  | .hbm, ⟨57, _⟩ => ⟨S8x8192x8448, .f32⟩
  | .hbm, ⟨58, _⟩ => ⟨S8x8192x8448, .f32⟩
  | .hbm, ⟨59, _⟩ => ⟨S8x8192x8448, .f32⟩
  | .hbm, ⟨60, _⟩ => ⟨S8x8192x8448, .f32⟩
  | .hbm, ⟨61, _⟩ => ⟨S8x128x8192, .f32⟩
  | .hbm, ⟨62, _⟩ => ⟨S8192x8x128, .f32⟩
  | .hbm, ⟨63, _⟩ => ⟨S8192x8x128, .f32⟩
  | .hbm, ⟨64, _⟩ => ⟨S_, .f32⟩
  | .hbm, ⟨65, _⟩ => ⟨S8192x8, .f32⟩
  | .hbm, ⟨66, _⟩ => ⟨S8192x8x1, .f32⟩
  | .hbm, ⟨67, _⟩ => ⟨S_, .f32⟩
  | .hbm, ⟨68, _⟩ => ⟨S8192x8x1, .f32⟩
  | .hbm, ⟨69, _⟩ => ⟨S8192x8x1, .f32⟩
  | .hbm, ⟨70, _⟩ => ⟨S_, .f32⟩
  | .hbm, ⟨71, _⟩ => ⟨S8192x8x1, .f32⟩
  | .hbm, ⟨72, _⟩ => ⟨S8192x8x1, .f32⟩
  | .hbm, ⟨73, _⟩ => ⟨S8192x8x1, .f32⟩
  | .hbm, ⟨74, _⟩ => ⟨S8192x8x128, .f32⟩
  | .hbm, ⟨75, _⟩ => ⟨S8192x8x128, .f32⟩
  | .hbm, ⟨76, _⟩ => ⟨S128, .f32⟩
  | .hbm, ⟨77, _⟩ => ⟨S1x1x128, .f32⟩
  | .hbm, ⟨78, _⟩ => ⟨S8192x8x128, .f32⟩
  | .hbm, ⟨79, _⟩ => ⟨S8192x8x128, .f32⟩
  | .hbm, ⟨80, _⟩ => ⟨S_, .f32⟩
  | .hbm, ⟨81, _⟩ => ⟨S8192x8x128, .f32⟩
  | .hbm, ⟨82, _⟩ => ⟨S8192x8x128, .f32⟩
  | .hbm, ⟨83, _⟩ => ⟨S8192x1024, .f32⟩
  | .hbm, ⟨84, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Ffn.lean ====
abbrev S16x1024x2048 : Shape := ⟨3, ![16, 1024, 2048]⟩
abbrev S2x16x2048x1024 : Shape := ⟨4, ![2, 16, 2048, 1024]⟩
abbrev S2x16x1024x2048 : Shape := ⟨4, ![2, 16, 1024, 2048]⟩
abbrev S16x1x1024 : Shape := ⟨3, ![16, 1, 1024]⟩
abbrev S16x1024x1024 : Shape := ⟨3, ![16, 1024, 1024]⟩
abbrev S1x1024x2048 : Shape := ⟨3, ![1, 1024, 2048]⟩
abbrev S1x1x2048x512 : Shape := ⟨4, ![1, 1, 2048, 512]⟩
abbrev S1x1024x512 : Shape := ⟨3, ![1, 1024, 512]⟩
abbrev S1024x2048 : Shape := ⟨2, ![1024, 2048]⟩
abbrev S2048x512 : Shape := ⟨2, ![2048, 512]⟩
abbrev S1024x512 : Shape := ⟨2, ![1024, 512]⟩
abbrev S16x2048x1024 : Shape := ⟨3, ![16, 2048, 1024]⟩
abbrev S1x1024x1024 : Shape := ⟨3, ![1, 1024, 1024]⟩
abbrev S1x1x1024x2048 : Shape := ⟨4, ![1, 1, 1024, 2048]⟩
abbrev S1x1x1024 : Shape := ⟨3, ![1, 1, 1024]⟩
abbrev S1x2048x1024 : Shape := ⟨3, ![1, 2048, 1024]⟩
abbrev S1024x1024 : Shape := ⟨2, ![1024, 1024]⟩
abbrev S2048x1024 : Shape := ⟨2, ![2048, 1024]⟩
abbrev S1x1024 : Shape := ⟨2, ![1, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16x1024x2048, .bf16⟩
  | .hbm, ⟨1, _⟩ => ⟨S2x16x2048x1024, .f32⟩
  | .hbm, ⟨2, _⟩ => ⟨S2x16x2048x1024, .f32⟩
  | .hbm, ⟨3, _⟩ => ⟨S2x16x1024x2048, .f32⟩
  | .hbm, ⟨4, _⟩ => ⟨S16x1x1024, .f32⟩
  | .hbm, ⟨5, _⟩ => ⟨S16x1024x1024, .bf16⟩
  | .hbm, ⟨6, _⟩ => ⟨S16x2048x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024x2048, .f32⟩
  | .local _ .vmem, ⟨11, _⟩ => ⟨S1x1x1024x2048, .f32⟩
  | .local _ .vmem, ⟨12, _⟩ => ⟨S1x1x1024, .f32⟩
  | .local _ .vmem, ⟨13, _⟩ => ⟨S1x1x1024, .f32⟩
  | .local _ .vmem, ⟨14, _⟩ => ⟨S1x2048x1024, .bf16⟩
  | .local _ .vmem, ⟨15, _⟩ => ⟨S1x2048x1024, .bf16⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FfnReferenceIdeal.lean ====
abbrev S16x1024x2048 : Shape := ⟨3, ![16, 1024, 2048]⟩
abbrev S2x16x2048x1024 : Shape := ⟨4, ![2, 16, 2048, 1024]⟩
abbrev S2x16x1024x2048 : Shape := ⟨4, ![2, 16, 1024, 2048]⟩
abbrev S16x1x1024 : Shape := ⟨3, ![16, 1, 1024]⟩
abbrev S1x16x2048x1024 : Shape := ⟨4, ![1, 16, 2048, 1024]⟩
abbrev S16x2048x1024 : Shape := ⟨3, ![16, 2048, 1024]⟩
abbrev S16x1024x1024 : Shape := ⟨3, ![16, 1024, 1024]⟩
abbrev S_ : Shape := ⟨0, ![]⟩
abbrev S1x16x1024x2048 : Shape := ⟨4, ![1, 16, 1024, 2048]⟩
abbrev S16x1024 : Shape := ⟨2, ![16, 1024]⟩
abbrev S16x1024x1 : Shape := ⟨3, ![16, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S2x16x2048x1024, .f32⟩
  | .hbm, ⟨2, _⟩ => ⟨S2x16x2048x1024, .f32⟩
  | .hbm, ⟨3, _⟩ => ⟨S2x16x1024x2048, .f32⟩
  | .hbm, ⟨4, _⟩ => ⟨S16x1x1024, .f32⟩
  | .hbm, ⟨5, _⟩ => ⟨S16x1024x2048, .f32⟩
  | .hbm, ⟨6, _⟩ => ⟨S1x16x2048x1024, .f32⟩
  | .hbm, ⟨7, _⟩ => ⟨S16x2048x1024, .f32⟩
  | .hbm, ⟨8, _⟩ => ⟨S16x1024x1024, .f32⟩
  | .hbm, ⟨9, _⟩ => ⟨S1x16x2048x1024, .f32⟩
  | .hbm, ⟨10, _⟩ => ⟨S16x2048x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S_, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S16x1024x1024, .f32⟩
  | .hbm, ⟨22, _⟩ => ⟨S1x16x1024x2048, .f32⟩
  | .hbm, ⟨23, _⟩ => ⟨S16x1024x2048, .f32⟩
  | .hbm, ⟨24, _⟩ => ⟨S16x1024x2048, .f32⟩
  | .hbm, ⟨25, _⟩ => ⟨S16x1024, .f32⟩
  | .hbm, ⟨26, _⟩ => ⟨S16x1024x1, .f32⟩
  | .hbm, ⟨27, _⟩ => ⟨S16x1024x2048, .f32⟩
  | .hbm, ⟨28, _⟩ => ⟨S16x1024x2048, .f32⟩
  | .hbm, ⟨29, _⟩ => ⟨S16x2048x1024, .f32⟩
  | .hbm, ⟨30, _⟩ => ⟨S16x2048x1024, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== FfnOne.lean ====
abbrev S16x1024x2048 : Shape := ⟨3, ![16, 1024, 2048]⟩
abbrev S2x16x2048x1024 : Shape := ⟨4, ![2, 16, 2048, 1024]⟩
abbrev S2x16x1024x2048 : Shape := ⟨4, ![2, 16, 1024, 2048]⟩
abbrev S16x1x1024 : Shape := ⟨3, ![16, 1, 1024]⟩
abbrev S16x1024x1024 : Shape := ⟨3, ![16, 1024, 1024]⟩
abbrev S1x1024x2048 : Shape := ⟨3, ![1, 1024, 2048]⟩
abbrev S1x1x2048x512 : Shape := ⟨4, ![1, 1, 2048, 512]⟩
abbrev S1x1024x512 : Shape := ⟨3, ![1, 1024, 512]⟩
abbrev S1024x2048 : Shape := ⟨2, ![1024, 2048]⟩
abbrev S2048x512 : Shape := ⟨2, ![2048, 512]⟩
abbrev S1024x512 : Shape := ⟨2, ![1024, 512]⟩
abbrev S16x2048x1024 : Shape := ⟨3, ![16, 2048, 1024]⟩
abbrev S1x1024x1024 : Shape := ⟨3, ![1, 1024, 1024]⟩
abbrev S1x1x1024x2048 : Shape := ⟨4, ![1, 1, 1024, 2048]⟩
abbrev S1x1x1024 : Shape := ⟨3, ![1, 1, 1024]⟩
abbrev S1x2048x1024 : Shape := ⟨3, ![1, 2048, 1024]⟩
abbrev S1024x1024 : Shape := ⟨2, ![1024, 1024]⟩
abbrev S2048x1024 : Shape := ⟨2, ![2048, 1024]⟩
abbrev S1x1024 : Shape := ⟨2, ![1, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16x1024x2048, .bf16⟩
  | .hbm, ⟨1, _⟩ => ⟨S2x16x2048x1024, .f32⟩
  | .hbm, ⟨2, _⟩ => ⟨S2x16x2048x1024, .f32⟩
  | .hbm, ⟨3, _⟩ => ⟨S2x16x1024x2048, .f32⟩
  | .hbm, ⟨4, _⟩ => ⟨S16x1x1024, .f32⟩
  | .hbm, ⟨5, _⟩ => ⟨S16x1024x1024, .bf16⟩
  | .hbm, ⟨6, _⟩ => ⟨S16x2048x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024x2048, .f32⟩
  | .local _ .vmem, ⟨11, _⟩ => ⟨S1x1x1024x2048, .f32⟩
  | .local _ .vmem, ⟨12, _⟩ => ⟨S1x1x1024, .f32⟩
  | .local _ .vmem, ⟨13, _⟩ => ⟨S1x1x1024, .f32⟩
  | .local _ .vmem, ⟨14, _⟩ => ⟨S1x2048x1024, .bf16⟩
  | .local _ .vmem, ⟨15, _⟩ => ⟨S1x2048x1024, .bf16⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FfnOneReferenceIdeal.lean ====
abbrev S16x1024x2048 : Shape := ⟨3, ![16, 1024, 2048]⟩
abbrev S2x16x2048x1024 : Shape := ⟨4, ![2, 16, 2048, 1024]⟩
abbrev S2x16x1024x2048 : Shape := ⟨4, ![2, 16, 1024, 2048]⟩
abbrev S16x1x1024 : Shape := ⟨3, ![16, 1, 1024]⟩
abbrev S1x16x2048x1024 : Shape := ⟨4, ![1, 16, 2048, 1024]⟩
abbrev S16x2048x1024 : Shape := ⟨3, ![16, 2048, 1024]⟩
abbrev S16x1024x1024 : Shape := ⟨3, ![16, 1024, 1024]⟩
abbrev S_ : Shape := ⟨0, ![]⟩
abbrev S1x16x1024x2048 : Shape := ⟨4, ![1, 16, 1024, 2048]⟩
abbrev S16x1024 : Shape := ⟨2, ![16, 1024]⟩
abbrev S16x1024x1 : Shape := ⟨3, ![16, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S2x16x2048x1024, .f32⟩
  | .hbm, ⟨2, _⟩ => ⟨S2x16x2048x1024, .f32⟩
  | .hbm, ⟨3, _⟩ => ⟨S2x16x1024x2048, .f32⟩
  | .hbm, ⟨4, _⟩ => ⟨S16x1x1024, .f32⟩
  | .hbm, ⟨5, _⟩ => ⟨S16x1024x2048, .f32⟩
  | .hbm, ⟨6, _⟩ => ⟨S1x16x2048x1024, .f32⟩
  | .hbm, ⟨7, _⟩ => ⟨S16x2048x1024, .f32⟩
  | .hbm, ⟨8, _⟩ => ⟨S16x1024x1024, .f32⟩
  | .hbm, ⟨9, _⟩ => ⟨S1x16x2048x1024, .f32⟩
  | .hbm, ⟨10, _⟩ => ⟨S16x2048x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S_, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S16x1024x1024, .f32⟩
  | .hbm, ⟨22, _⟩ => ⟨S1x16x1024x2048, .f32⟩
  | .hbm, ⟨23, _⟩ => ⟨S16x1024x2048, .f32⟩
  | .hbm, ⟨24, _⟩ => ⟨S16x1024x2048, .f32⟩
  | .hbm, ⟨25, _⟩ => ⟨S16x1024, .f32⟩
  | .hbm, ⟨26, _⟩ => ⟨S16x1024x1, .f32⟩
  | .hbm, ⟨27, _⟩ => ⟨S16x1024x2048, .f32⟩
  | .hbm, ⟨28, _⟩ => ⟨S16x1024x2048, .f32⟩
  | .hbm, ⟨29, _⟩ => ⟨S16x2048x1024, .f32⟩
  | .hbm, ⟨30, _⟩ => ⟨S16x2048x1024, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Finish.lean ====
abbrev S8192x1024 : Shape := ⟨2, ![8192, 1024]⟩
abbrev S8192x2048 : Shape := ⟨2, ![8192, 2048]⟩
abbrev S2048x2048 : Shape := ⟨2, ![2048, 2048]⟩
abbrev S1x8x128x128 : Shape := ⟨4, ![1, 8, 128, 128]⟩
abbrev S1x8x128 : Shape := ⟨3, ![1, 8, 128]⟩
abbrev S1x1024 : Shape := ⟨2, ![1, 1024]⟩
abbrev S1x2048 : Shape := ⟨2, ![1, 2048]⟩
abbrev S8x128x128 : Shape := ⟨3, ![8, 128, 128]⟩
abbrev S8x128 : Shape := ⟨2, ![8, 128]⟩
abbrev S8x128x1 : Shape := ⟨3, ![8, 128, 1]⟩
abbrev S1024 : Shape := ⟨1, ![1024]⟩
abbrev S512x1024 : Shape := ⟨2, ![512, 1024]⟩
abbrev S512x2048 : Shape := ⟨2, ![512, 2048]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 19
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8192x2048, .f32⟩
  | .hbm, ⟨3, _⟩ => ⟨S2048x2048, .bf16⟩
  | .hbm, ⟨4, _⟩ => ⟨S1x8x128x128, .f32⟩
  | .hbm, ⟨5, _⟩ => ⟨S1x8x128, .f32⟩
  | .hbm, ⟨6, _⟩ => ⟨S1x1024, .f32⟩
  | .hbm, ⟨7, _⟩ => ⟨S1x1024, .f32⟩
  | .hbm, ⟨8, _⟩ => ⟨S1x2048, .f32⟩
  | .hbm, ⟨9, _⟩ => ⟨S8x128x128, .f32⟩
  | .hbm, ⟨10, _⟩ => ⟨S8x128x128, .bf16⟩
  | .hbm, ⟨11, _⟩ => ⟨S8x128, .f32⟩
  | .hbm, ⟨12, _⟩ => ⟨S8x128x1, .f32⟩
  | .hbm, ⟨13, _⟩ => ⟨S8x128x128, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S8x128x128, .bf16⟩
  | .local _ .vmem, ⟨8, _⟩ => ⟨S8x128x128, .f32⟩
  | .local _ .vmem, ⟨9, _⟩ => ⟨S1x1024, .f32⟩
  | .local _ .vmem, ⟨10, _⟩ => ⟨S1x1024, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FinishReferenceIdeal.lean ====
abbrev S8192x1024 : Shape := ⟨2, ![8192, 1024]⟩
abbrev S8192x2048 : Shape := ⟨2, ![8192, 2048]⟩
abbrev S2048x2048 : Shape := ⟨2, ![2048, 2048]⟩
abbrev S1x8x128x128 : Shape := ⟨4, ![1, 8, 128, 128]⟩
abbrev S1x8x128 : Shape := ⟨3, ![1, 8, 128]⟩
abbrev S1x1024 : Shape := ⟨2, ![1, 1024]⟩
abbrev S1x2048 : Shape := ⟨2, ![1, 2048]⟩
abbrev S64x128x8x128 : Shape := ⟨4, ![64, 128, 8, 128]⟩
abbrev S_ : Shape := ⟨0, ![]⟩
abbrev S64x128x8 : Shape := ⟨3, ![64, 128, 8]⟩
abbrev S64x128x8x1 : Shape := ⟨4, ![64, 128, 8, 1]⟩
abbrev S1024 : Shape := ⟨1, ![1024]⟩
abbrev S8x128 : Shape := ⟨2, ![8, 128]⟩
abbrev S1x1x8x128 : Shape := ⟨4, ![1, 1, 8, 128]⟩
abbrev S8x128x128 : Shape := ⟨3, ![8, 128, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8192x2048, .f32⟩
  | .hbm, ⟨3, _⟩ => ⟨S2048x2048, .bf16⟩
  | .hbm, ⟨4, _⟩ => ⟨S1x8x128x128, .f32⟩
  | .hbm, ⟨5, _⟩ => ⟨S1x8x128, .f32⟩
  | .hbm, ⟨6, _⟩ => ⟨S1x1024, .f32⟩
  | .hbm, ⟨7, _⟩ => ⟨S1x1024, .f32⟩
  | .hbm, ⟨8, _⟩ => ⟨S1x2048, .f32⟩
  | .hbm, ⟨9, _⟩ => ⟨S8192x1024, .f32⟩
  | .hbm, ⟨10, _⟩ => ⟨S8192x1024, .f32⟩
  | .hbm, ⟨11, _⟩ => ⟨S64x128x8x128, .f32⟩
  | .hbm, ⟨12, _⟩ => ⟨S_, .f32⟩
  | .hbm, ⟨13, _⟩ => ⟨S64x128x8, .f32⟩
  | .hbm, ⟨14, _⟩ => ⟨S64x128x8x1, .f32⟩
  | .hbm, ⟨15, _⟩ => ⟨S_, .f32⟩
  | .hbm, ⟨16, _⟩ => ⟨S64x128x8x1, .f32⟩
  | .hbm, ⟨17, _⟩ => ⟨S64x128x8x1, .f32⟩
  | .hbm, ⟨18, _⟩ => ⟨S64x128x8x128, .f32⟩
  | .hbm, ⟨19, _⟩ => ⟨S64x128x8x128, .f32⟩
  | .hbm, ⟨20, _⟩ => ⟨S64x128x8x128, .f32⟩
  | .hbm, ⟨21, _⟩ => ⟨S_, .f32⟩
  | .hbm, ⟨22, _⟩ => ⟨S64x128x8, .f32⟩
  | .hbm, ⟨23, _⟩ => ⟨S64x128x8x1, .f32⟩
  | .hbm, ⟨24, _⟩ => ⟨S_, .f32⟩
  | .hbm, ⟨25, _⟩ => ⟨S64x128x8x1, .f32⟩
  | .hbm, ⟨26, _⟩ => ⟨S64x128x8x1, .f32⟩
  | .hbm, ⟨27, _⟩ => ⟨S64x128x8x128, .f32⟩
  | .hbm, ⟨28, _⟩ => ⟨S64x128x8x128, .f32⟩
  | .hbm, ⟨29, _⟩ => ⟨S_, .f32⟩
  | .hbm, ⟨30, _⟩ => ⟨S64x128x8x1, .f32⟩
  | .hbm, ⟨31, _⟩ => ⟨S64x128x8x1, .f32⟩
  | .hbm, ⟨32, _⟩ => ⟨S64x128x8x1, .f32⟩
  | .hbm, ⟨33, _⟩ => ⟨S64x128x8x128, .f32⟩
  | .hbm, ⟨34, _⟩ => ⟨S64x128x8x128, .f32⟩
  | .hbm, ⟨35, _⟩ => ⟨S1024, .f32⟩
  | .hbm, ⟨36, _⟩ => ⟨S8x128, .f32⟩
  | .hbm, ⟨37, _⟩ => ⟨S1x1x8x128, .f32⟩
  | .hbm, ⟨38, _⟩ => ⟨S64x128x8x128, .f32⟩
  | .hbm, ⟨39, _⟩ => ⟨S64x128x8x128, .f32⟩
  | .hbm, ⟨40, _⟩ => ⟨S1024, .f32⟩
  | .hbm, ⟨41, _⟩ => ⟨S8x128, .f32⟩
  | .hbm, ⟨42, _⟩ => ⟨S1x1x8x128, .f32⟩
  | .hbm, ⟨43, _⟩ => ⟨S64x128x8x128, .f32⟩
  | .hbm, ⟨44, _⟩ => ⟨S64x128x8x128, .f32⟩
  | .hbm, ⟨45, _⟩ => ⟨S8x128x128, .f32⟩
  | .hbm, ⟨46, _⟩ => ⟨S8x64x128x128, .f32⟩
  | .hbm, ⟨47, _⟩ => ⟨S64x128x8x128, .f32⟩
  | .hbm, ⟨48, _⟩ => ⟨S8x128, .f32⟩
  | .hbm, ⟨49, _⟩ => ⟨S128x8, .f32⟩
  | .hbm, ⟨50, _⟩ => ⟨S128x8x1, .f32⟩
  | .hbm, ⟨51, _⟩ => ⟨S1x128x8x1, .f32⟩
  | .hbm, ⟨52, _⟩ => ⟨S64x128x8x128, .f32⟩
  | .hbm, ⟨53, _⟩ => ⟨S64x128x8x128, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x2048, .f32⟩
  | .hbm, ⟨58, _⟩ => ⟨S2048x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.AttnModelIdeal.lean ====
module

public import proofs.«01_k».proof.Proof.Gen.KernelIdeal.Loops
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The attention of one head as a function of its operands

One head's keys `K` (8448 rows) and values `V` (8448 columns) are walked in six blocks of 1408. For a stacked query block `q`
the walk carries the running column maxima and the accumulator: 128 rows of weighted values over 16 rows of weight sums. -/

/-- Rows `1408 n …` of the keys. -/
def kblk (K : Vec F S8448x128 .bf16) (n : ℕ) : Vec F S1408x128 .bf16 := fun y =>
  K (fun a => match a with
    | ⟨0, _⟩ => ⟨(1408 * n + (y 0).val) % 8448, Nat.mod_lt _ (by decide)⟩
    | ⟨1, _⟩ => y 1)

/-- Columns `1408 n …` of the values. -/
def vblk (V : Vec F S128x8448 .bf16) (n : ℕ) : Vec F S128x1408 .bf16 := fun y =>
  V (fun a => match a with
    | ⟨0, _⟩ => y 0
    | ⟨1, _⟩ => ⟨(1408 * n + (y 1).val) % 8448, Nat.mod_lt _ (by decide)⟩)

/-- The scores of key block `n`. -/
def scr (q : Vec F S128x1024 .bf16) (K : Vec F S8448x128 .bf16) (n : ℕ) : Vec F S1408x1024 .f32 := k0_pay2 q (kblk K n)

/-- The running maxima `m` after the scores `s`. -/
def mx (s : Vec F S1408x1024 .f32) (m : Vec F S1x1024 .f32) : Vec F S1x1024 .f32 := k0_pay5 (k0_pay3 s m)

/-- The accumulator `a` after the scores `s` and the value block `vb`, the running maxima being `m` before. -/
def ac (v16 : FVec F S16x1408 .bf16) (s : Vec F S1408x1024 .f32) (vb : Vec F S128x1408 .bf16) (m : Vec F S1x1024 .f32)
    (a : Vec F S144x1024 .f32) : Vec F S144x1024 .f32 := k0_pay4 v16 s vb m a

/-- The scores before step `n`, the walk starting from the scores `s0` of block 0. -/
def srun (q : Vec F S128x1024 .bf16) (K : Vec F S8448x128 .bf16) (s0 : Vec F S1408x1024 .f32) : ℕ → Vec F S1408x1024 .f32
  | 0 => s0
  | n + 1 => scr q K (n + 1)

/-- The running maxima before key block `n`. -/
def mrun (q : Vec F S128x1024 .bf16) (K : Vec F S8448x128 .bf16) (s0 : Vec F S1408x1024 .f32) : ℕ → Vec F S1x1024 .f32
  | 0 => k0_pay9
  | n + 1 => mx (srun q K s0 n) (mrun q K s0 n)

/-- The accumulator before key block `n`. -/
def arun (v16 : FVec F S16x1408 .bf16) (q : Vec F S128x1024 .bf16) (K : Vec F S8448x128 .bf16) (V : Vec F S128x8448 .bf16)
    (s0 : Vec F S1408x1024 .f32) : ℕ → Vec F S144x1024 .f32
  | 0 => k0_pay10
  | n + 1 => ac v16 (srun q K s0 n) (vblk V n) (mrun q K s0 n) (arun v16 q K V s0 n)

/-- Rows `512 b …` of the queries. -/
def qblk (Q : Vec F S8192x128 .bf16) (b : ℕ) : Vec F S512x128 .bf16 := fun y =>
  Q (fun a => match a with
    | ⟨0, _⟩ => ⟨(512 * b + (y 0).val) % 8192, Nat.mod_lt _ (by decide)⟩
    | ⟨1, _⟩ => y 1)

/-- The stacked query block the outer loop works on before trip `n`, from `q0` at the loop's entry. -/
def stq (Q : Vec F S8192x128 .bf16) (q0 : Vec F S128x1024 .bf16) : ℕ → Vec F S128x1024 .bf16
  | 0 => q0
  | n + 1 => k0_pay11 (qblk Q (min (n + 1) 15))

/-- The scores of key block 0 before trip `n`, from `s0` at the loop's entry. -/
def sts (Q : Vec F S8192x128 .bf16) (K : Vec F S8448x128 .bf16) (s0 : Vec F S1408x1024 .f32) : ℕ → Vec F S1408x1024 .f32
  | 0 => s0
  | n + 1 => scr (k0_pay11 (qblk Q (min (n + 1) 15))) K 0

/-- The finished accumulator before trip `n`, from `d0` at the loop's entry: the query block of the trip before. -/
def std (v16 : FVec F S16x1408 .bf16) (Q : Vec F S8192x128 .bf16) (K : Vec F S8448x128 .bf16) (V : Vec F S128x8448 .bf16)
    (q0 : Vec F S128x1024 .bf16) (s0 : Vec F S1408x1024 .f32) (d0 : Vec F S144x1024 .f32) : ℕ → Vec F S144x1024 .f32
  | 0 => d0
  | n + 1 => arun v16 (stq Q q0 n) K V (sts Q K s0 n) 6

/-- The rows the outer loop's trip `n` writes: block `n - 1` of 512. -/
theorem row_inb (n : ℕ) : ∀ a : Fin 2, (![512 * (min n 16 - 1), 0] : Fin 2 → ℕ) a + S512x128.size a ≤ S8192x128.size a := fun a =>
  match a with
  | ⟨0, _⟩ => by show 512 * (min n 16 - 1) + 512 ≤ 8192; omega
  | ⟨1, _⟩ => by show 0 + 128 ≤ 128; omega

/-- What the outer loop has written into the query block's buffer before trip `n`. -/
def pc11 (Q : Vec F S8192x128 .bf16) : ℕ → List (View.Piece (Elt F) S128x1024 .bf16)
  | 0 => []
  | n + 1 => ⟨Rect.unit (s := S128x1024) ![0, 0] S128x1024.size inb_S128x1024_S128x1024_0_0, k0_pay11 (qblk Q (min (n + 1) 15))⟩ :: pc11 Q n

/-- What the outer loop has left in the score buffer before trip `n`. -/
def pc12 (Q : Vec F S8192x128 .bf16) (K : Vec F S8448x128 .bf16) : ℕ → List (View.Piece (Elt F) S1408x1024 .f32)
  | 0 => []
  | n + 1 => ⟨Rect.unit (s := S1408x1024) ![0, 0] S1408x1024.size inb_S1408x1024_S1408x1024_0_0, scr (k0_pay11 (qblk Q (min (n + 1) 15))) K 0⟩ :: pc12 Q K n

/-- What the outer loop has written into the finished accumulator's buffer before trip `n`. -/
def pc16 (v16 : FVec F S16x1408 .bf16) (Q : Vec F S8192x128 .bf16) (K : Vec F S8448x128 .bf16) (V : Vec F S128x8448 .bf16)
    (q0 : Vec F S128x1024 .bf16) (s0 : Vec F S1408x1024 .f32) (d0 : Vec F S144x1024 .f32) : ℕ → List (View.Piece (Elt F) S144x1024 .f32)
  | 0 => []
  | n + 1 => ⟨Rect.unit (s := S144x1024) ![0, 0] S144x1024.size inb_S144x1024_S144x1024_0_0, std v16 Q K V q0 s0 d0 (n + 1)⟩ :: pc16 v16 Q K V q0 s0 d0 n

/-- What the outer loop has written into the output before trip `n`: trip `n` writes block `n - 1` from the finished accumulator. -/
def pc8 (v16 : FVec F S16x1408 .bf16) (v33 : FVec F S1x1 .f32) (G : Vec F S1x128 .f32) (Q : Vec F S8192x128 .bf16) (K : Vec F S8448x128 .bf16) (V : Vec F S128x8448 .bf16)
    (q0 : Vec F S128x1024 .bf16) (s0 : Vec F S1408x1024 .f32) (d0 : Vec F S144x1024 .f32) : ℕ → List (View.Piece (Elt F) S8192x128 .bf16)
  | 0 => []
  | n + 1 => ⟨Rect.unit (s := S8192x128) ![512 * (min n 16 - 1), 0] S512x128.size (row_inb n), k0_pay19 v33 (std v16 Q K V q0 s0 d0 n) G⟩
      :: pc8 v16 v33 G Q K V q0 s0 d0 n

/-! ## Offsets -/

theorem off2a_eq : ∀ k : Fin k0_t2_loop.trips, k0_off2 k 1#32 = ![1408 * (2 * k.val + 1), 0] := by decide
theorem off2b_eq : ∀ k : Fin k0_t2_loop.trips, k0_off2 k 2#32 = ![1408 * (2 * k.val + 2), 0] := by decide
theorem off3_eq : ∀ k : Fin k0_t2_loop.trips, k0_off3 k = ![0, 1408 * (2 * k.val)] := by decide
theorem off4_eq : ∀ k : Fin k0_t2_loop.trips, k0_off4 k = ![0, 1408 * (2 * k.val + 1)] := by decide
theorem off1_eq : ∀ k : Fin k0_t1_loop.trips, k0_off1 k = ![512 * min (k.val + 1) 15, 0] := by decide
theorem off5_eq : ∀ k : Fin k0_t1_loop.trips, k0_off5 k = ![512 * (k.val - 1), 0] := by decide

/-- A load of 512 rows at row `512 n` is query block `n`. -/
theorem ld_qblk (v : View sig .tc .vmem S8192x128 .bf16) (X : v.ty.Contents (Elt F)) {off : Fin 2 → ℕ} (n : ℕ) (hn : n < 16)
    (h : off = ![512 * n, 0]) (inb : ∀ a : Fin 2, off a + (![512, 128] : Fin 2 → ℕ) a ≤ S8192x128.size a) :
    v.readAt (Elt F) (Rect.unit (s := S8192x128) off ![512, 128] inb).toLoadRect X = qblk (v.read (Elt F) X) n := by
  subst h
  rw [View.readAt_unit v X inb rfl inb]
  funext y
  refine congrArg (v.read (Elt F) X) (funext fun a => Fin.ext ?_)
  match a with
  | ⟨0, _⟩ =>
    show 512 * n + 1 * (y 0).val = (512 * n + (y 0).val) % 8192
    have h0 : (y 0).val < 512 := (y 0).isLt
    rw [Nat.mod_eq_of_lt (by omega), Nat.one_mul]
  | ⟨1, _⟩ =>
    show 0 + 1 * (y 1).val = (y 1).val
    omega

/-- A load of 1408 rows at row `1408 n` is key block `n`. -/
theorem ld_kblk (v : View sig .tc .vmem S8448x128 .bf16) (X : v.ty.Contents (Elt F)) {off : Fin 2 → ℕ} (n : ℕ) (hn : n < 6)
    (h : off = ![1408 * n, 0]) (inb : ∀ a : Fin 2, off a + (![1408, 128] : Fin 2 → ℕ) a ≤ S8448x128.size a) :
    v.readAt (Elt F) (Rect.unit (s := S8448x128) off ![1408, 128] inb).toLoadRect X = kblk (v.read (Elt F) X) n := by
  subst h
  rw [View.readAt_unit v X inb rfl inb]
  funext y
  refine congrArg (v.read (Elt F) X) (funext fun a => Fin.ext ?_)
  match a with
  | ⟨0, _⟩ =>
    show 1408 * n + 1 * (y 0).val = (1408 * n + (y 0).val) % 8448
    have h0 : (y 0).val < 1408 := (y 0).isLt
    rw [Nat.mod_eq_of_lt (by omega), Nat.one_mul]
  | ⟨1, _⟩ =>
    show 0 + 1 * (y 1).val = (y 1).val
    omega

/-- A load of 1408 columns at column `1408 n` is value block `n`. -/
theorem ld_vblk (v : View sig .tc .vmem S128x8448 .bf16) (X : v.ty.Contents (Elt F)) {off : Fin 2 → ℕ} (n : ℕ) (hn : n < 6)
    (h : off = ![0, 1408 * n]) (inb : ∀ a : Fin 2, off a + (![128, 1408] : Fin 2 → ℕ) a ≤ S128x8448.size a) :
    v.readAt (Elt F) (Rect.unit (s := S128x8448) off ![128, 1408] inb).toLoadRect X = vblk (v.read (Elt F) X) n := by
  subst h
  rw [View.readAt_unit v X inb rfl inb]
  funext y
  refine congrArg (v.read (Elt F) X) (funext fun a => Fin.ext ?_)
  match a with
  | ⟨1, _⟩ =>
    show 1408 * n + 1 * (y 1).val = (1408 * n + (y 1).val) % 8448
    have h0 : (y 1).val < 1408 := (y 1).isLt
    rw [Nat.mod_eq_of_lt (by omega), Nat.one_mul]
  | ⟨0, _⟩ =>
    show 0 + 1 * (y 0).val = (y 0).val
    omega

end Cert.Proof.KernelIdeal
-- ==== Proof.AttnInnerIdeal.lean ====
module

public import proofs.«01_k».proof.Proof.AttnModelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (𝒱 : Variants) (c : Dev nD) (bd : Option 𝒱.V) (i : grid0.Coords) (arg1 : Memref sig .tc .vmem S8192x128 .bf16) (harg1 : arg1.IsWhole) (arg2 : Memref sig .tc .vmem S256x128 .bf16) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S128x8192 .bf16) (harg5 : arg5.IsWhole) (arg6 : Memref sig .tc .vmem S8x128 .f32) (harg6 : arg6.IsWhole) (arg7 : Memref sig .tc .vmem S1x128 .f32) (harg7 : arg7.IsWhole) (arg8 : Memref sig .tc .vmem S8192x128 .bf16) (harg8 : arg8.IsWhole) (arg9 : Memref sig .tc .vmem S1x1024 .f32) (harg9 : arg9.IsWhole) (arg10 : Memref sig .tc .vmem S144x1024 .f32) (harg10 : arg10.IsWhole) (arg11 : Memref sig .tc .vmem S128x1024 .bf16) (harg11 : arg11.IsWhole) (arg12 : Memref sig .tc .vmem S1408x1024 .f32) (harg12 : arg12.IsWhole) (arg13 : Memref sig .tc .vmem S1408x1024 .f32) (harg13 : arg13.IsWhole) (arg14 : Memref sig .tc .vmem S8448x128 .bf16) (harg14 : arg14.IsWhole) (arg15 : Memref sig .tc .vmem S128x8448 .bf16) (harg15 : arg15.IsWhole) (arg16 : Memref sig .tc .vmem S144x1024 .f32) (harg16 : arg16.IsWhole) (v16 : FVec F S16x1408 .bf16) (c0_i32_34 : BitVec 32) (c1_i32 : BitVec 32) (k0_t1 : Fin k0_t1_loop.trips) (v96 : Vec F S128x1024 .bf16) (X14 : BufTy.Contents (Elt F) arg14.view.ty) (X15 : BufTy.Contents (Elt F) arg15.view.ty)
  (f9 : BufTy.Contents (Elt F) arg9.view.ty) (f10 : BufTy.Contents (Elt F) arg10.view.ty) (f12 : BufTy.Contents (Elt F) arg12.view.ty) (f13 : BufTy.Contents (Elt F) arg13.view.ty)

/-! ## What one trip of the inner loop leaves: two key blocks further -/

/-- The accumulator's step as the first half of a trip spells it, from equal operands. -/
theorem pay4_congr {s s' : Vec F S1408x1024 .f32} {vb vb' : Vec F S128x1408 .bf16} {m m' : Vec F S1x1024 .f32} {a a' : Vec F S144x1024 .f32}
    (hs : s = s') (hv : vb = vb') (hm : m = m') (ha : a = a') : k0_pay4 v16 s vb m a = ac v16 s' vb' m' a' := by
  subst hs hv hm ha; rfl

/-- The same, as the second half of a trip spells it. -/
theorem pay8_congr {s s' : Vec F S1408x1024 .f32} {vb vb' : Vec F S128x1408 .bf16} {m m' : Vec F S1x1024 .f32} {a a' : Vec F S144x1024 .f32}
    (hs : s = s') (hv : vb = vb') (hm : m = m') (ha : a = a') : k0_pay8 v16 s vb m a = ac v16 s' vb' m' a' := by
  subst hs hv hm ha; rfl

/-- The scores' step from equal key blocks. -/
theorem pay2_congr {q : Vec F S128x1024 .bf16} {K : Vec F S8448x128 .bf16} {kb : Vec F S1408x128 .bf16} {n : ℕ} (h : kb = kblk K n) :
    k0_pay2 q kb = scr q K n := by
  subst h; rfl

/-- The maxima's step from equal operands. -/
theorem pay53_congr {s s' : Vec F S1408x1024 .f32} {m m' : Vec F S1x1024 .f32} (hs : s = s') (hm : m = m') : k0_pay5 (k0_pay3 s m) = mx s' m' := by
  subst hs hm; rfl

/-- The same, as the second half of a trip spells it. -/
theorem pay127_congr {s s' : Vec F S1408x1024 .f32} {m m' : Vec F S1x1024 .f32} (hs : s = s') (hm : m = m') : k0_pay12 (k0_pay7 s m) = mx s' m' := by
  subst hs hm; rfl

/-- The running maxima after a trip. -/
theorem trip_read9 (k : Fin k0_t2_loop.trips) : arg9.view.read (Elt F) (arg9.view.writes (Elt F) f9 ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 c0_i32_34 c1_i32 k0_t1 v96 X14 X15 k).1 f9 f10 f12 f13))
    = mx (scr v96 (arg14.view.read (Elt F) X14) (2 * k.val + 1)) (mx (arg12.view.read (Elt F) f12) (arg9.view.read (Elt F) f9)) := by
  have hk : k.val < 2 := Nat.lt_of_lt_of_le k.isLt k0_t2_abs.2.1
  unfold trip_k0_t2
  dsimp only
  refine (View.read_writes_full arg9.view _ _ _ _).trans ?_
  unfold trip_k0_t2.sl.r_1 trip_k0_t2.sl.v277 trip_k0_t2.sl.v284 trip_k0_t2.sl.HW_arg9_1 trip_k0_t2.sl.HW_arg13_1
  erw [View.readCov_full, View.readCov_full, ld_kblk arg14.view X14 (2 * k.val + 1) (by omega) (off2a_eq k)]
  unfold trip_k0_t2.sl.r
  erw [View.readAt_full, View.readAt_full]
  rfl

/-- The accumulator after a trip. -/
theorem trip_read10 (k : Fin k0_t2_loop.trips) : arg10.view.read (Elt F) (arg10.view.writes (Elt F) f10 ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 c0_i32_34 c1_i32 k0_t1 v96 X14 X15 k).2.1 f9 f10 f12 f13))
    = ac v16 (scr v96 (arg14.view.read (Elt F) X14) (2 * k.val + 1)) (vblk (arg15.view.read (Elt F) X15) (2 * k.val + 1)) (mx (arg12.view.read (Elt F) f12) (arg9.view.read (Elt F) f9))
      (ac v16 (arg12.view.read (Elt F) f12) (vblk (arg15.view.read (Elt F) X15) (2 * k.val)) (arg9.view.read (Elt F) f9) (arg10.view.read (Elt F) f10)) := by
  have hk : k.val < 2 := Nat.lt_of_lt_of_le k.isLt k0_t2_abs.2.1
  unfold trip_k0_t2
  dsimp only
  refine (View.read_writes_full arg10.view _ _ _ _).trans ?_
  refine pay8_congr v16 ?_ (ld_vblk arg15.view X15 (2 * k.val + 1) (by omega) (off4_eq k) _) ?_ ?_
  · unfold trip_k0_t2.sl.v277 trip_k0_t2.sl.HW_arg13_1
    exact (View.readCov_full _ _ _ _ _).trans (pay2_congr (ld_kblk arg14.view X14 (2 * k.val + 1) (by omega) (off2a_eq k) _))
  · unfold trip_k0_t2.sl.v284 trip_k0_t2.sl.HW_arg9_1 trip_k0_t2.sl.r
    exact (View.readCov_full _ _ _ _ _).trans (pay53_congr (View.readAt_full _ _ _) (View.readAt_full _ _ _))
  · unfold trip_k0_t2.sl.v294 trip_k0_t2.sl.HW_arg10_1
    exact (View.readCov_full _ _ _ _ _).trans (pay4_congr v16 (View.readAt_full _ _ _)
      (ld_vblk arg15.view X15 (2 * k.val) (by omega) (off3_eq k) _) (View.readAt_full _ _ _) (View.readAt_full _ _ _))

/-- The scores ready for the next trip. -/
theorem trip_read12 (k : Fin k0_t2_loop.trips) : arg12.view.read (Elt F) (arg12.view.writes (Elt F) f12 ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 c0_i32_34 c1_i32 k0_t1 v96 X14 X15 k).2.2.1 f9 f10 f12 f13))
    = scr v96 (arg14.view.read (Elt F) X14) (2 * k.val + 2) := by
  have hk : k.val < 2 := Nat.lt_of_lt_of_le k.isLt k0_t2_abs.2.1
  unfold trip_k0_t2
  dsimp only
  refine (View.read_writes_full arg12.view _ _ _ _).trans ?_
  rw [ld_kblk arg14.view X14 (2 * k.val + 2) (by omega) (off2b_eq k)]
  rfl

/-- Before trip `n` the loop has walked key blocks `0 … 2 n - 1` and holds the scores of block `2 n`. -/
theorem inner_reads (h9 : arg9.view.read (Elt F) f9 = k0_pay9) (h10 : arg10.view.read (Elt F) f10 = k0_pay10)
    (n : ℕ) (hn : n ≤ k0_t2_loop.trips) :
    arg9.view.read (Elt F) (arg9.view.writes (Elt F) f9 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 c0_i32_34 c1_i32 k0_t1 v96 X14 X15 f9 f10 f12 f13 n).1) = mrun v96 (arg14.view.read (Elt F) X14) (arg12.view.read (Elt F) f12) (2 * n)
    ∧ arg10.view.read (Elt F) (arg10.view.writes (Elt F) f10 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 c0_i32_34 c1_i32 k0_t1 v96 X14 X15 f9 f10 f12 f13 n).2.1) = arun v16 v96 (arg14.view.read (Elt F) X14) (arg15.view.read (Elt F) X15) (arg12.view.read (Elt F) f12) (2 * n)
    ∧ arg12.view.read (Elt F) (arg12.view.writes (Elt F) f12 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 c0_i32_34 c1_i32 k0_t1 v96 X14 X15 f9 f10 f12 f13 n).2.2.1) = srun v96 (arg14.view.read (Elt F) X14) (arg12.view.read (Elt F) f12) (2 * n) := by
  induction n with
  | zero => exact ⟨h9, h10, rfl⟩
  | succ n ih =>
    obtain ⟨i9, i10, i12⟩ := ih (Nat.le_of_succ_le hn)
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 c0_i32_34 c1_i32 k0_t1 v96 X14 X15 f9 f10 f12 f13 ⟨n, hn⟩
    dsimp only at e
    rw [e]
    dsimp only
    rw [View.writes_append, View.writes_append, View.writes_append]
    refine ⟨?_, ?_, ?_⟩
    · rw [trip_read9, i9, i12]; rfl
    · rw [trip_read10, i9, i10, i12]; rfl
    · rw [trip_read12]; rfl

end Cert.Proof.KernelIdeal
-- ==== Proof.AttnOuterIdeal.lean ====
module

public import proofs.«01_k».proof.Proof.AttnInnerIdeal
public import Idealize.ShloMosaic.Lib.Pointwise.Reshape

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Small equations the outer loop's values meet -/

/-- The accumulator's step as the outer trip spells it after the inner loop. -/
theorem pay16_congr {v16 : FVec F S16x1408 .bf16} {s s' : Vec F S1408x1024 .f32} {vb vb' : Vec F S128x1408 .bf16} {m m' : Vec F S1x1024 .f32} {a a' : Vec F S144x1024 .f32}
    (hs : s = s') (hv : vb = vb') (hm : m = m') (ha : a = a') : k0_pay16 v16 s vb m a = ac v16 s' vb' m' a' := by
  subst hs hv hm ha; rfl

/-- The maxima's step there. -/
theorem pay17_congr {s s' : Vec F S1408x1024 .f32} {m m' : Vec F S1x1024 .f32} (hs : s = s') (hm : m = m') : k0_pay17 s m = mx s' m' := by
  subst hs hm; rfl

/-- The accumulator's last step. -/
theorem pay34_congr {v16 : FVec F S16x1408 .bf16} {s s' : Vec F S1408x1024 .f32} {vb vb' : Vec F S128x1408 .bf16} {m m' : Vec F S1x1024 .f32} {a a' : Vec F S144x1024 .f32}
    (hs : s = s') (hv : vb = vb') (hm : m = m') (ha : a = a') :
    k0_pay34 s (k0_pay20 v16 vb) m (k0_pay21 s) a = ac v16 s' vb' m' a' := by
  subst hs hv hm ha; rfl

/-- The scores of the last key block. -/
theorem pay14_congr {q : Vec F S128x1024 .bf16} {K : Vec F S8448x128 .bf16} {kb : Vec F S1408x128 .bf16} {n : ℕ} (h : kb = kblk K n) :
    k0_pay14 (k0_pay13 q kb) = scr q K n := by
  subst h; rfl

/-- The scores of the next query block at key block 0. -/
theorem pay18_congr {q q' : Vec F S128x1024 .bf16} {K : Vec F S8448x128 .bf16} {kb : Vec F S1408x128 .bf16} {n : ℕ} (hq : q = q') (h : kb = kblk K n) :
    k0_pay18 q kb = scr q' K n := by
  subst hq h; rfl

theorem pay36_id (x : Vec F S144x1024 .f32) : k0_pay36 x = x := shapeCast_id _ _
theorem pay37_id (x : Vec F S128x1024 .bf16) : k0_pay37 x = x := shapeCast_id _ _

/-- The inner loop makes two trips. -/
theorem trips2 : Scf.trips k0_t2_loop.lb k0_t2_loop.ub k0_t2_loop.st = 2 := by decide

/-! ## What the pieces leave to read -/

theorem read_pc11 (v : View sig .tc .vmem S128x1024 .bf16) (G : v.ty.Contents (Elt F)) (Q : Vec F S8192x128 .bf16) (k : ℕ) :
    v.read (Elt F) (v.writes (Elt F) G (pc11 Q k)) = stq Q (v.read (Elt F) G) k := by
  cases k with
  | zero => rfl
  | succ n => exact View.read_writes_full _ _ _ _ _

theorem read_pc12 (v : View sig .tc .vmem S1408x1024 .f32) (G : v.ty.Contents (Elt F)) (Q : Vec F S8192x128 .bf16) (K : Vec F S8448x128 .bf16) (k : ℕ) :
    v.read (Elt F) (v.writes (Elt F) G (pc12 Q K k)) = sts Q K (v.read (Elt F) G) k := by
  cases k with
  | zero => rfl
  | succ n => exact View.read_writes_full _ _ _ _ _

theorem read_pc16 (v : View sig .tc .vmem S144x1024 .f32) (G : v.ty.Contents (Elt F)) (v16 : FVec F S16x1408 .bf16) (Q : Vec F S8192x128 .bf16)
    (K : Vec F S8448x128 .bf16) (V : Vec F S128x8448 .bf16) (q0 : Vec F S128x1024 .bf16) (s0 : Vec F S1408x1024 .f32) (k : ℕ) :
    v.read (Elt F) (v.writes (Elt F) G (pc16 v16 Q K V q0 s0 (v.read (Elt F) G) k)) = std v16 Q K V q0 s0 (v.read (Elt F) G) k := by
  cases k with
  | zero => rfl
  | succ n => exact View.read_writes_full _ _ _ _ _

/-- The next piece of the output, its rows spelt as the program spells them. -/
theorem pc8_succ (v16 : FVec F S16x1408 .bf16) (v33 : FVec F S1x1 .f32) (G : Vec F S1x128 .f32) (Q : Vec F S8192x128 .bf16) (K : Vec F S8448x128 .bf16)
    (V : Vec F S128x8448 .bf16) (q0 : Vec F S128x1024 .bf16) (s0 : Vec F S1408x1024 .f32) (d0 : Vec F S144x1024 .f32) (n : ℕ) {off : Fin 2 → ℕ}
    (h : off = ![512 * (min n 16 - 1), 0]) (inb : ∀ a : Fin 2, off a + S512x128.size a ≤ S8192x128.size a) :
    ((⟨Rect.unit (s := S8192x128) off S512x128.size inb, k0_pay19 v33 (std v16 Q K V q0 s0 d0 n) G⟩ : View.Piece (Elt F) S8192x128 .bf16)
      :: pc8 v16 v33 G Q K V q0 s0 d0 n) = pc8 v16 v33 G Q K V q0 s0 d0 (n + 1) := by
  subst h; rfl

local notation "𝕄" => MT nD τ sig Unit (Elt F) ℕ (UR sig nD τ) ℕ

/-- A buffer's elements held at some contents are held at any contents that read the same. -/
theorem pt_of_read {sp : Space} {s : Shape} {e : EltTy} (c : Thread nD τ) (m : Memref sig c.2.kind sp s e) (f g : Buf (Elt F) (m.view.loc c))
    (h : m.view.read (Elt F) f = m.view.read (Elt F) g) :
    (m.view.loc c ↦[m.view.set]{fullShare} f : sProp 𝕄) ⊢ m.view.loc c ↦[m.view.set]{fullShare} g := by
  rw [pointsTo_rep (Ix := Unit) (Name := ℕ) (U := UR sig nD τ) (Lvl := ℕ) c m f, h, ← pointsTo_rep (Ix := Unit) (Name := ℕ) (U := UR sig nD τ) (Lvl := ℕ) c m g]

/-- The outer loop before trip `k`: the four buffers it only reads, the walk's own two and the second score buffer at
    any contents, and the four it carries from trip to trip at the pieces of the trips before. -/
abbrev inv1 (c : Dev nD) (i : grid0.Coords) (arg1 : Memref sig .tc .vmem S8192x128 .bf16) (harg1 : arg1.IsWhole) (arg2 : Memref sig .tc .vmem S256x128 .bf16) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S128x8192 .bf16) (harg5 : arg5.IsWhole) (arg6 : Memref sig .tc .vmem S8x128 .f32) (harg6 : arg6.IsWhole) (arg7 : Memref sig .tc .vmem S1x128 .f32) (harg7 : arg7.IsWhole) (arg8 : Memref sig .tc .vmem S8192x128 .bf16) (harg8 : arg8.IsWhole) (arg9 : Memref sig .tc .vmem S1x1024 .f32) (harg9 : arg9.IsWhole) (arg10 : Memref sig .tc .vmem S144x1024 .f32) (harg10 : arg10.IsWhole) (arg11 : Memref sig .tc .vmem S128x1024 .bf16) (harg11 : arg11.IsWhole) (arg12 : Memref sig .tc .vmem S1408x1024 .f32) (harg12 : arg12.IsWhole) (arg13 : Memref sig .tc .vmem S1408x1024 .f32) (harg13 : arg13.IsWhole) (arg14 : Memref sig .tc .vmem S8448x128 .bf16) (harg14 : arg14.IsWhole) (arg15 : Memref sig .tc .vmem S128x8448 .bf16) (harg15 : arg15.IsWhole) (arg16 : Memref sig .tc .vmem S144x1024 .f32) (harg16 : arg16.IsWhole) (v16 : FVec F S16x1408 .bf16) (v31 : FVec F S1x1 .f32) (v32 : FVec F S1x1 .f32) (X1 : BufTy.Contents (Elt F) arg1.view.ty) (X7 : BufTy.Contents (Elt F) arg7.view.ty) (X14 : BufTy.Contents (Elt F) arg14.view.ty) (X15 : BufTy.Contents (Elt F) arg15.view.ty) (G8 : BufTy.Contents (Elt F) arg8.view.ty) (G11 : BufTy.Contents (Elt F) arg11.view.ty) (G12 : BufTy.Contents (Elt F) arg12.view.ty) (G16 : BufTy.Contents (Elt F) arg16.view.ty) (k : ℕ) : sProp 𝕄 :=
  iprop((arg1.view.loc (c : Thread nD τ) ↦[arg1.view.set]{fullShare} X1) ∗ (arg7.view.loc (c : Thread nD τ) ↦[arg7.view.set]{fullShare} X7) ∗ (arg14.view.loc (c : Thread nD τ) ↦[arg14.view.set]{fullShare} X14) ∗ (arg15.view.loc (c : Thread nD τ) ↦[arg15.view.set]{fullShare} X15) ∗ (∃ f, (arg9.view.loc (c : Thread nD τ) ↦[arg9.view.set]{fullShare} f)) ∗ (∃ f, (arg10.view.loc (c : Thread nD τ) ↦[arg10.view.set]{fullShare} f)) ∗ (∃ f, (arg13.view.loc (c : Thread nD τ) ↦[arg13.view.set]{fullShare} f)) ∗ (∃ f, (arg11.view.loc (c : Thread nD τ) ↦[arg11.view.set]{fullShare} f) ∗ ⌜f = arg11.view.writes (Elt F) G11 (pc11 (arg1.view.read (Elt F) X1) k)⌝) ∗ (∃ f, (arg12.view.loc (c : Thread nD τ) ↦[arg12.view.set]{fullShare} f) ∗ ⌜f = arg12.view.writes (Elt F) G12 (pc12 (arg1.view.read (Elt F) X1) (arg14.view.read (Elt F) X14) k)⌝) ∗ (∃ f, (arg16.view.loc (c : Thread nD τ) ↦[arg16.view.set]{fullShare} f) ∗ ⌜f = arg16.view.writes (Elt F) G16 (pc16 v16 (arg1.view.read (Elt F) X1) (arg14.view.read (Elt F) X14) (arg15.view.read (Elt F) X15) (arg11.view.read (Elt F) G11) (arg12.view.read (Elt F) G12) (arg16.view.read (Elt F) G16) k)⌝) ∗ (∃ f, (arg8.view.loc (c : Thread nD τ) ↦[arg8.view.set]{fullShare} f) ∗ ⌜f = arg8.view.writes (Elt F) G8 (pc8 v16 (k0_pay29 v31 v32) (arg7.view.read (Elt F) X7) (arg1.view.read (Elt F) X1) (arg14.view.read (Elt F) X14) (arg15.view.read (Elt F) X15) (arg11.view.read (Elt F) G11) (arg12.view.read (Elt F) G12) (arg16.view.read (Elt F) G16) k)⌝))

set_option warn.classDefReducibility false in
/-- One trip of the outer loop keeps it: query block `k` walked to its end, block `k - 1`'s rows written out. -/
@[sl_loop] def loopInv_k0_t1 (𝒱 : Variants) (c : Dev nD) (bd : Option 𝒱.V) (E : Set ℕ) (i : grid0.Coords) (arg1 : Memref sig .tc .vmem S8192x128 .bf16) (harg1 : arg1.IsWhole) (arg2 : Memref sig .tc .vmem S256x128 .bf16) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S128x8192 .bf16) (harg5 : arg5.IsWhole) (arg6 : Memref sig .tc .vmem S8x128 .f32) (harg6 : arg6.IsWhole) (arg7 : Memref sig .tc .vmem S1x128 .f32) (harg7 : arg7.IsWhole) (arg8 : Memref sig .tc .vmem S8192x128 .bf16) (harg8 : arg8.IsWhole) (arg9 : Memref sig .tc .vmem S1x1024 .f32) (harg9 : arg9.IsWhole) (arg10 : Memref sig .tc .vmem S144x1024 .f32) (harg10 : arg10.IsWhole) (arg11 : Memref sig .tc .vmem S128x1024 .bf16) (harg11 : arg11.IsWhole) (arg12 : Memref sig .tc .vmem S1408x1024 .f32) (harg12 : arg12.IsWhole) (arg13 : Memref sig .tc .vmem S1408x1024 .f32) (harg13 : arg13.IsWhole) (arg14 : Memref sig .tc .vmem S8448x128 .bf16) (harg14 : arg14.IsWhole) (arg15 : Memref sig .tc .vmem S128x8448 .bf16) (harg15 : arg15.IsWhole) (arg16 : Memref sig .tc .vmem S144x1024 .f32) (harg16 : arg16.IsWhole) (v16 : FVec F S16x1408 .bf16) (v31 : FVec F S1x1 .f32) (v32 : FVec F S1x1 .f32) (X1 : BufTy.Contents (Elt F) arg1.view.ty) (X7 : BufTy.Contents (Elt F) arg7.view.ty) (X14 : BufTy.Contents (Elt F) arg14.view.ty) (X15 : BufTy.Contents (Elt F) arg15.view.ty) (G8 : BufTy.Contents (Elt F) arg8.view.ty) (G11 : BufTy.Contents (Elt F) arg11.view.ty) (G12 : BufTy.Contents (Elt F) arg12.view.ty) (G16 : BufTy.Contents (Elt F) arg16.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 v31 v32 where
  inv k _ := inv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 v31 v32 X1 X7 X14 X15 G8 G11 G12 G16 k
  step k _ := by
    dsimp only [inv1]
    iintro ⟨H1, H7, H14, H15, ⟨%f9, H9⟩, ⟨%f10, H10⟩, ⟨%f13, H13⟩, ⟨%f11, H11, %h11⟩, ⟨%f12, H12, %h12⟩, ⟨%f16, H16, %h16⟩, ⟨%f8, H8, %h8⟩⟩
    sl_unfold [k0_t1_body]
    sl_exec
    sl_step
    have r11 : arg11.view.read (Elt F) f11 = stq (arg1.view.read (Elt F) X1) (arg11.view.read (Elt F) G11) k.val := by rw [h11]; exact read_pc11 _ _ _ _
    have r12 : arg12.view.read (Elt F) f12 = sts (arg1.view.read (Elt F) X1) (arg14.view.read (Elt F) X14) (arg12.view.read (Elt F) G12) k.val := by rw [h12]; exact read_pc12 _ _ _ _ _
    have r16 : arg16.view.read (Elt F) f16 = std v16 (arg1.view.read (Elt F) X1) (arg14.view.read (Elt F) X14) (arg15.view.read (Elt F) X15) (arg11.view.read (Elt F) G11) (arg12.view.read (Elt F) G12) (arg16.view.read (Elt F) G16) k.val := by rw [h16]; exact read_pc16 _ _ _ _ _ _ _ _ _
    have hk : k.val < 16 := Nat.lt_of_lt_of_le k.isLt k0_t1_abs.2.1
    have eq : loopInv_k0_t1.sl.r arg1 X1 k = k0_pay11 (qblk (arg1.view.read (Elt F) X1) (min (k.val + 1) 15)) := by
      unfold loopInv_k0_t1.sl.r
      exact congrArg k0_pay11 (ld_qblk arg1.view X1 _ (by omega) (off1_eq k) _)
    have e96 : View.readAt (Elt F) arg11.view (Rect.unit (s := S128x1024) ![0, 0] S128x1024.size inb_S128x1024_S128x1024_0_0).toLoadRect f11 = stq (arg1.view.read (Elt F) X1) (arg11.view.read (Elt F) G11) k.val := (View.readAt_full _ _ _).trans r11
    have ir := inner_reads (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 (0#32) (1#32) k
      (View.readAt (Elt F) arg11.view (Rect.unit (s := S128x1024) ![0, 0] S128x1024.size inb_S128x1024_S128x1024_0_0).toLoadRect f11) X14 X15
      (arg9.view.writes (Elt F) arg9.view.junk loopInv_k0_t1.sl.H9_1) (arg10.view.writes (Elt F) arg10.view.junk loopInv_k0_t1.sl.H10_1) f12 f13
      (View.read_writes_full _ _ _ _ _) (View.read_writes_full _ _ _ _ _) (Scf.trips k0_t2_loop.lb k0_t2_loop.ub k0_t2_loop.st) (le_of_eq rfl)
    obtain ⟨i9, i10, i12⟩ := ir
    rw [trips2] at i9 i10 i12
    rw [e96, r12] at i9 i10 i12
    have w131 : loopInv_k0_t1.sl.v131 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 X14 X15 k f13 f11 f12 = srun (stq (arg1.view.read (Elt F) X1) (arg11.view.read (Elt F) G11) k.val) (arg14.view.read (Elt F) X14) (sts (arg1.view.read (Elt F) X1) (arg14.view.read (Elt F) X14) (arg12.view.read (Elt F) G12) k.val) 4 := by
      unfold loopInv_k0_t1.sl.v131
      refine (View.readAt_full _ _ _).trans ?_
      rw [trips2, e96]; exact i12
    have w136 : loopInv_k0_t1.sl.v136 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 X14 X15 k f13 f11 f12 = mrun (stq (arg1.view.read (Elt F) X1) (arg11.view.read (Elt F) G11) k.val) (arg14.view.read (Elt F) X14) (sts (arg1.view.read (Elt F) X1) (arg14.view.read (Elt F) X14) (arg12.view.read (Elt F) G12) k.val) 4 := by
      unfold loopInv_k0_t1.sl.v136
      refine (View.readAt_full _ _ _).trans ?_
      rw [View.writes_append, trips2, e96]; exact i9
    have w146 : loopInv_k0_t1.sl.v146 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 X14 X15 k f13 f11 f12 = arun v16 (stq (arg1.view.read (Elt F) X1) (arg11.view.read (Elt F) G11) k.val) (arg14.view.read (Elt F) X14) (arg15.view.read (Elt F) X15) (sts (arg1.view.read (Elt F) X1) (arg14.view.read (Elt F) X14) (arg12.view.read (Elt F) G12) k.val) 4 := by
      unfold loopInv_k0_t1.sl.v146
      refine (View.readAt_full _ _ _).trans ?_
      rw [View.writes_append, trips2, e96]; exact i10
    have w198 : loopInv_k0_t1.sl.v198 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 X14 X15 k f13 f11 f12 = srun (stq (arg1.view.read (Elt F) X1) (arg11.view.read (Elt F) G11) k.val) (arg14.view.read (Elt F) X14) (sts (arg1.view.read (Elt F) X1) (arg14.view.read (Elt F) X14) (arg12.view.read (Elt F) G12) k.val) 5 := by
      unfold loopInv_k0_t1.sl.v198 loopInv_k0_t1.sl.H13_1 loopInv_k0_t1.sl.r_1
      refine (View.readCov_full _ _ _ _ _).trans ?_
      rw [e96]
      exact pay14_congr (ld_kblk arg14.view X14 5 (by omega) rfl _)
    have w203 : loopInv_k0_t1.sl.v203 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 X14 X15 k f13 f11 f12 = mrun (stq (arg1.view.read (Elt F) X1) (arg11.view.read (Elt F) G11) k.val) (arg14.view.read (Elt F) X14) (sts (arg1.view.read (Elt F) X1) (arg14.view.read (Elt F) X14) (arg12.view.read (Elt F) G12) k.val) 5 := by
      unfold loopInv_k0_t1.sl.v203 loopInv_k0_t1.sl.H9_1_1
      exact (View.readCov_full _ _ _ _ _).trans (pay17_congr w131 w136)
    have w213 : loopInv_k0_t1.sl.v213 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 X14 X15 k f13 f11 f12 = arun v16 (stq (arg1.view.read (Elt F) X1) (arg11.view.read (Elt F) G11) k.val) (arg14.view.read (Elt F) X14) (arg15.view.read (Elt F) X15) (sts (arg1.view.read (Elt F) X1) (arg14.view.read (Elt F) X14) (arg12.view.read (Elt F) G12) k.val) 5 := by
      unfold loopInv_k0_t1.sl.v213 loopInv_k0_t1.sl.H10_1_1
      exact (View.readCov_full _ _ _ _ _).trans (pay16_congr w131 (ld_vblk arg15.view X15 4 (by omega) rfl _) w136 w146)
    have w224 : loopInv_k0_t1.sl.v224 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v16 X14 X15 k f13 f11 f12 = arun v16 (stq (arg1.view.read (Elt F) X1) (arg11.view.read (Elt F) G11) k.val) (arg14.view.read (Elt F) X14) (arg15.view.read (Elt F) X15) (sts (arg1.view.read (Elt F) X1) (arg14.view.read (Elt F) X14) (arg12.view.read (Elt F) G12) k.val) 6 := by
      unfold loopInv_k0_t1.sl.v224 loopInv_k0_t1.sl.H10_2 loopInv_k0_t1.sl.r_2 loopInv_k0_t1.sl.r_3
      exact (View.readCov_full _ _ _ _ _).trans (pay34_congr w198 (ld_vblk arg15.view X15 5 (by omega) rfl _) w203 w213)
    isplitl [H1]
    · iexact H1
    isplitl [H7]
    · iexact H7
    isplitl [H14]
    · iexact H14
    isplitl [H15]
    · iexact H15
    isplitl [H9]
    · iexists _; iexact H9
    isplitl [H10]
    · iexists _; iexact H10
    isplitl [H13]
    · iexists _; iexact H13
    isplitl [H11]
    · iexists (arg11.view.writes (Elt F) G11 (pc11 (arg1.view.read (Elt F) X1) (k.val + 1)))
      isplitl [H11]
      · iapply (pt_of_read c arg11 _ _ ?_) $$ H11
        exact ((View.read_writes_full _ _ _ _ _).trans ((pay37_id _).trans eq)).trans (View.read_writes_full _ _ _ _ _).symm
      · ipureintro; rfl
    isplitl [H12]
    · iexists (arg12.view.writes (Elt F) G12 (pc12 (arg1.view.read (Elt F) X1) (arg14.view.read (Elt F) X14) (k.val + 1)))
      isplitl [H12]
      · iapply (pt_of_read c arg12 _ _ ?_) $$ H12
        exact ((View.read_writes_full _ _ _ _ _).trans (pay18_congr eq (ld_kblk arg14.view X14 0 (by omega) rfl _))).trans (View.read_writes_full _ _ _ _ _).symm
      · ipureintro; rfl
    isplitl [H16]
    · iexists (arg16.view.writes (Elt F) G16 (pc16 v16 (arg1.view.read (Elt F) X1) (arg14.view.read (Elt F) X14) (arg15.view.read (Elt F) X15) (arg11.view.read (Elt F) G11) (arg12.view.read (Elt F) G12) (arg16.view.read (Elt F) G16) (k.val + 1)))
      isplitl [H16]
      · iapply (pt_of_read c arg16 _ _ ?_) $$ H16
        exact ((View.read_writes_full _ _ _ _ _).trans ((pay36_id _).trans w224)).trans (View.read_writes_full _ _ _ _ _).symm
      · ipureintro; rfl
    iexists _
    isplitl [H8]
    · iexact H8
    · ipureintro
      have o5 : k0_off5 k = ![512 * (min k.val 16 - 1), 0] := by rw [off5_eq k, Nat.min_eq_left (by omega)]
      have ed : View.readAt (Elt F) arg16.view (Rect.unit (s := S144x1024) ![0, 0] S144x1024.size inb_S144x1024_S144x1024_0_0).toLoadRect f16
          = std v16 (arg1.view.read (Elt F) X1) (arg14.view.read (Elt F) X14) (arg15.view.read (Elt F) X15) (arg11.view.read (Elt F) G11) (arg12.view.read (Elt F) G12) (arg16.view.read (Elt F) G16) k.val := (View.readAt_full _ _ _).trans r16
      have eg : View.readAt (Elt F) arg7.view (Rect.unit (s := S1x128) ![0, 0] S1x128.size inb_S1x128_S1x128_0_0).toLoadRect X7 = (arg7.view.read (Elt F) X7) := View.readAt_full _ _ _
      rw [ed, eg, h8, ← View.writes_append, List.singleton_append]
      exact congrArg (arg8.view.writes (Elt F) G8) (pc8_succ _ _ _ _ _ _ _ _ _ _ o5 _)

end Cert.Proof.KernelIdeal

end
-- ==== Proof.AttnReadIdeal.lean ====
module

public import proofs.«01_k».proof.Proof.AttnOuterIdeal
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The keys the walk runs over: the 256 rows of `a`, then the 8192 of `b`. -/
def catK (a : Vec F S256x128 .bf16) (b : Vec F S8192x128 .bf16) : Vec F S8448x128 .bf16 := fun y =>
  if h : (y 0).val < 256 then a (fun k => match k with
    | ⟨0, _⟩ => ⟨(y 0).val, h⟩
    | ⟨1, _⟩ => y 1)
  else b (fun k => match k with
    | ⟨0, _⟩ => ⟨(y 0).val - 256, by have h1 : (y 0).val < 8448 := (y 0).isLt; show (y 0).val - 256 < 8192; omega⟩
    | ⟨1, _⟩ => y 1)

/-- The values the walk runs over: the 256 columns of `a`, then the 8192 of `b`. -/
def catV (a : Vec F S128x256 .bf16) (b : Vec F S128x8192 .bf16) : Vec F S128x8448 .bf16 := fun y =>
  if h : (y 1).val < 256 then a (fun k => match k with
    | ⟨0, _⟩ => y 0
    | ⟨1, _⟩ => ⟨(y 1).val, h⟩)
  else b (fun k => match k with
    | ⟨0, _⟩ => y 0
    | ⟨1, _⟩ => ⟨(y 1).val - 256, by have h1 : (y 1).val < 8448 := (y 1).isLt; show (y 1).val - 256 < 8192; omega⟩)

/-- Query block `b`, stacked: its two heads' halves side by side. -/
def qst (Q : Vec F S8192x128 .bf16) (b : ℕ) : Vec F S128x1024 .bf16 := k0_pay11 (qblk Q b)

/-- The finished accumulator of query block `b`. -/
def accOf (Q : Vec F S8192x128 .bf16) (K : Vec F S8448x128 .bf16) (V : Vec F S128x8448 .bf16) (b : ℕ) : Vec F S144x1024 .f32 :=
  arun k0_pay26 (qst Q b) K V (scr (qst Q b) K 0) 6

/-- The output's 512 rows of query block `b`. -/
def rowsOf (Q : Vec F S8192x128 .bf16) (K : Vec F S8448x128 .bf16) (V : Vec F S128x8448 .bf16) (L : Vec F S8x128 .f32) (G : Vec F S1x128 .f32) (b : ℕ) :
    Vec F S512x128 .bf16 :=
  k0_pay19 (k0_pay29 (k0_pay27 L) k0_pay28) (accOf Q K V b) G

/-- A row of the output within its block of 512. -/
def inBlk (y : S8192x128.Idx) : S512x128.Idx := fun k => match k with
  | ⟨0, _⟩ => ⟨(y 0).val % 512, Nat.mod_lt _ (by decide)⟩
  | ⟨1, _⟩ => y 1

/-- The output block one body run leaves, from its seven operands' blocks. -/
def attnOut (x1 : Vec F S8192x128 .bf16) (x2 : Vec F S256x128 .bf16) (x3 : Vec F S8192x128 .bf16) (x4 : Vec F S128x256 .bf16) (x5 : Vec F S128x8192 .bf16)
    (x6 : Vec F S8x128 .f32) (x7 : Vec F S1x128 .f32) : Vec F S8192x128 .bf16 := fun y =>
  rowsOf x1 (catK x2 x3) (catV x4 x5) x6 x7 ((y 0).val / 512) (inBlk y)

/-! ## What the two concatenating stores leave -/

theorem read_catK (v : View sig .tc .vmem S8448x128 .bf16) (f : v.ty.Contents (Elt F)) (a : Vec F S256x128 .bf16) (b : Vec F S8192x128 .bf16) :
    v.read (Elt F) (v.writes (Elt F) f [⟨Rect.unit (s := S8448x128) ![256, 0] S8192x128.size inb_S8448x128_S8192x128_256_0, b⟩,
      ⟨Rect.unit (s := S8448x128) ![0, 0] S256x128.size inb_S8448x128_S256x128_0_0, a⟩]) = catK a b := by
  funext y
  have h1 : (y 0).val < 8448 := (y 0).isLt
  unfold catK
  by_cases h : (y 0).val < 256
  · rw [dif_pos h]
    refine (View.read_writes_cons_rows_of_not_mem v f _ _ _ y rfl (W := 8192) rfl (.inl h)).trans ?_
    exact View.read_writes_cons_rows_of_mem v f _ _ _ y _ rfl (Nat.zero_add _).symm rfl
  · rw [dif_neg h]
    exact View.read_writes_cons_rows_of_mem v f _ _ _ y _ rfl (by show (y 0).val = 256 + ((y 0).val - 256); omega) rfl

theorem read_catV (v : View sig .tc .vmem S128x8448 .bf16) (f : v.ty.Contents (Elt F)) (a : Vec F S128x256 .bf16) (b : Vec F S128x8192 .bf16) :
    v.read (Elt F) (v.writes (Elt F) f [⟨Rect.unit (s := S128x8448) ![0, 256] S128x8192.size inb_S128x8448_S128x8192_0_256, b⟩,
      ⟨Rect.unit (s := S128x8448) ![0, 0] S128x256.size inb_S128x8448_S128x256_0_0, a⟩]) = catV a b := by
  funext y
  have h1 : (y 1).val < 8448 := (y 1).isLt
  unfold catV
  by_cases h : (y 1).val < 256
  · rw [dif_pos h]
    refine (View.read_writes_cons_unit_of_not_mem v f _ _ _ y rfl (1 : Fin 2) (.inl h)).trans ?_
    exact View.read_writes_cons_unit_of_mem v f _ _ _ y _ rfl (fun k => match k with
      | ⟨0, _⟩ => (Nat.zero_add _).symm
      | ⟨1, _⟩ => (Nat.zero_add _).symm)
  · rw [dif_neg h]
    exact View.read_writes_cons_unit_of_mem v f _ _ _ y _ rfl (fun k => match k with
      | ⟨0, _⟩ => (Nat.zero_add _).symm
      | ⟨1, _⟩ => (by show (y 1).val = 256 + ((y 1).val - 256); omega))

/-! ## What the outer loop and the last store leave of the output -/

section
variable (Q : Vec F S8192x128 .bf16) (K : Vec F S8448x128 .bf16) (V : Vec F S128x8448 .bf16) (L : Vec F S8x128 .f32) (G : Vec F S1x128 .f32)
  (d0 : Vec F S144x1024 .f32)

theorem stq_eq (n : ℕ) (hn : n < 16) : stq Q (qst Q 0) n = qst Q n := by
  cases n with
  | zero => rfl
  | succ n => show k0_pay11 (qblk Q (min (n + 1) 15)) = _; rw [Nat.min_eq_left (by omega)]; rfl

theorem sts_eq (n : ℕ) (hn : n < 16) : sts Q K (scr (qst Q 0) K 0) n = scr (qst Q n) K 0 := by
  cases n with
  | zero => rfl
  | succ n => show scr (k0_pay11 (qblk Q (min (n + 1) 15))) K 0 = _; rw [Nat.min_eq_left (by omega)]; rfl

/-- Entering trip `n + 1`, the finished accumulator is query block `n`'s. -/
theorem std_eq (n : ℕ) (hn : n < 16) : std k0_pay26 Q K V (qst Q 0) (scr (qst Q 0) K 0) d0 (n + 1) = accOf Q K V n := by
  show arun k0_pay26 (stq Q (qst Q 0) n) K V (sts Q K (scr (qst Q 0) K 0) n) 6 = _
  rw [stq_eq Q n hn, sts_eq Q K n hn]; rfl

/-- After `n + 1` trips the rows of the blocks below `n` are the output's. -/
theorem read_pc8 (v : View sig .tc .vmem S8192x128 .bf16) (f : v.ty.Contents (Elt F)) (n : ℕ) (hn : n < 16) (y : S8192x128.Idx) (hy : (y 0).val / 512 < n) :
    v.read (Elt F) (v.writes (Elt F) f (pc8 k0_pay26 (k0_pay29 (k0_pay27 L) k0_pay28) G Q K V (qst Q 0) (scr (qst Q 0) K 0) d0 (n + 1))) y
      = rowsOf Q K V L G ((y 0).val / 512) (inBlk y) := by
  induction n with
  | zero => exact absurd hy (Nat.not_lt_zero _)
  | succ n ih =>
    have hm : 512 * (min (n + 1) 16 - 1) = 512 * n := by rw [Nat.min_eq_left (by omega), Nat.add_sub_cancel]
    by_cases h : (y 0).val / 512 = n
    · refine (View.read_writes_cons_rows_of_mem v f _ _ _ y (inBlk y) (o := 512 * n) (by rw [hm]) ?_ rfl).trans ?_
      · show (y 0).val = 512 * n + (y 0).val % 512
        omega
      · rw [std_eq Q K V d0 n (by omega), h]; rfl
    · refine (View.read_writes_cons_rows_of_not_mem v f _ _ _ y (o := 512 * n) (W := 512) (by rw [hm]) rfl (.inl (by omega))).trans ?_
      exact ih (by omega) (by omega)

/-- The loop's sixteen trips and the last store fill the output. -/
theorem read_out (v : View sig .tc .vmem S8192x128 .bf16) (f : v.ty.Contents (Elt F)) (a : Vec F S144x1024 .f32) (ha : a = accOf Q K V 15) :
    v.read (Elt F) (v.writes (Elt F) f (⟨Rect.unit (s := S8192x128) ![7680, 0] S512x128.size inb_S8192x128_S512x128_7680_0, k0_pay1 (k0_pay29 (k0_pay27 L) k0_pay28) a G⟩
        :: pc8 k0_pay26 (k0_pay29 (k0_pay27 L) k0_pay28) G Q K V (qst Q 0) (scr (qst Q 0) K 0) d0 16))
      = fun y => rowsOf Q K V L G ((y 0).val / 512) (inBlk y) := by
  subst ha
  funext y
  have h0 : (y 0).val < 8192 := (y 0).isLt
  by_cases h : (y 0).val / 512 = 15
  · refine (View.read_writes_cons_rows_of_mem v f _ _ _ y (inBlk y) (o := 7680) rfl ?_ rfl).trans ?_
    · show (y 0).val = 7680 + (y 0).val % 512
      omega
    · rw [h]; rfl
  · refine (View.read_writes_cons_rows_of_not_mem v f _ _ _ y (o := 7680) (W := 512) rfl rfl (.inl (by omega))).trans ?_
    exact read_pc8 Q K V L G d0 v f 15 (by omega) y (by omega)

end

/-- The first store of the query block. -/
theorem pay30_eq (x : Vec F S512x128 .bf16) : k0_pay30 x = k0_pay11 x := shapeCast_id _ _

/-- The first scores. -/
theorem pay31_congr {q q' : Vec F S128x1024 .bf16} {K : Vec F S8448x128 .bf16} {kb : Vec F S1408x128 .bf16} {n : ℕ} (hq : q = q') (h : kb = kblk K n) :
    k0_pay31 q kb = scr q' K n := by
  subst hq h; rfl

theorem pay22_id (x : Vec F S256x128 .bf16) : k0_pay22 x = x := shapeCast_id _ _
theorem pay23_id (x : Vec F S128x256 .bf16) : k0_pay23 x = x := shapeCast_id _ _
theorem pay24_id (x : Vec F S8192x128 .bf16) : k0_pay24 x = x := shapeCast_id _ _
theorem pay25_id (x : Vec F S128x8192 .bf16) : k0_pay25 x = x := shapeCast_id _ _

/-- The outer loop makes sixteen trips. -/
theorem trips1 : Scf.trips k0_t1_loop.lb k0_t1_loop.ub k0_t1_loop.st = 16 := by decide

end Cert.Proof.KernelIdeal

end
-- ==== Proof.SoftmaxMath.lean ====
/- The arithmetic of the differential attention over the extended reals: the running softmax against the one over all keys at once. -/
module

public import Idealize.ShloMosaic.PureOps.Ideal
public import Idealize.ShloMosaic.Lib.Pointwise

@[expose] public section

noncomputable section

namespace Cert.Proof.Softmax

open Idealize.ShloMosaic

/-- A sum of reals is the real sum. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-! ## The weight of a score below a maximum -/

/-- Two to the difference of a score and a bound of it, as a real. -/
def wt (x m : EReal) : ℝ := (Ideal.exp2 (x - m)).toReal

theorem wt_bot (m : EReal) : wt ⊥ m = 0 := by unfold wt; rw [EReal.bot_sub]; rfl
theorem wt_top (x : EReal) : wt x ⊤ = 0 := by unfold wt; rw [EReal.sub_top]; rfl
theorem wt_coe (a b : ℝ) : wt a b = Real.rpow 2 (a - b) := by unfold wt; rw [← EReal.coe_sub]; rfl

/-- A score below the bound has a real weight. -/
theorem exp2_sub {x m : EReal} (h : x ≤ m) : Ideal.exp2 (x - m) = (wt x m : EReal) := by
  induction m using EReal.rec with
  | bot => rw [le_bot_iff.mp h, wt_bot, EReal.bot_sub]; rfl
  | top => rw [wt_top, EReal.sub_top]; rfl
  | coe b =>
    induction x using EReal.rec with
    | bot => rw [wt_bot, EReal.bot_sub]; rfl
    | top => exact absurd h (not_le.mpr (EReal.coe_lt_top b))
    | coe a => rw [wt_coe, ← EReal.coe_sub]; rfl

theorem wt_nonneg {x m : EReal} (h : x ≤ m) : 0 ≤ wt x m := by
  induction m using EReal.rec with
  | bot => rw [le_bot_iff.mp h, wt_bot]
  | top => rw [wt_top]
  | coe b =>
    induction x using EReal.rec with
    | bot => rw [wt_bot]
    | top => exact absurd h (not_le.mpr (EReal.coe_lt_top b))
    | coe a => rw [wt_coe]; exact Real.rpow_nonneg (by norm_num) _

/-- Raising the bound scales the weights. -/
theorem wt_mul {x m m' : EReal} (h : x ≤ m) (h' : m ≤ m') : wt m m' * wt x m = wt x m' := by
  induction m' using EReal.rec with
  | bot => rw [le_bot_iff.mp h', wt_bot]; rw [le_bot_iff.mp h'] at h; rw [le_bot_iff.mp h, wt_bot]; simp
  | top => rw [wt_top, wt_top, zero_mul]
  | coe c =>
    induction m using EReal.rec with
    | bot => rw [le_bot_iff.mp h, wt_bot, wt_bot]; simp
    | top => exact absurd h' (not_le.mpr (EReal.coe_lt_top c))
    | coe b =>
      induction x using EReal.rec with
      | bot => rw [wt_bot, wt_bot, mul_zero]
      | top => exact absurd h (not_le.mpr (EReal.coe_lt_top b))
      | coe a =>
        rw [wt_coe, wt_coe, wt_coe]
        show (2 : ℝ) ^ (b - c) * (2 : ℝ) ^ (a - b) = (2 : ℝ) ^ (a - c)
        rw [← Real.rpow_add (by norm_num)]; congr 1; ring

/-- The exponential of the scores times ln 2 gives the same weights. -/
theorem exp_sub {x m : EReal} (h : x ≤ m) : Ideal.exp (x * ((Real.log 2 : ℝ) : EReal) - m * ((Real.log 2 : ℝ) : EReal)) = (wt x m : EReal) := by
  have hp : (0 : ℝ) < Real.log 2 := Real.log_pos (by norm_num)
  induction m using EReal.rec with
  | bot => rw [le_bot_iff.mp h, wt_bot, EReal.bot_mul_coe_of_pos hp, EReal.bot_sub]; rfl
  | top => rw [wt_top, EReal.top_mul_coe_of_pos hp, EReal.sub_top]; rfl
  | coe b =>
    induction x using EReal.rec with
    | bot => rw [wt_bot, EReal.bot_mul_coe_of_pos hp, EReal.bot_sub]; rfl
    | top => exact absurd h (not_le.mpr (EReal.coe_lt_top b))
    | coe a =>
      rw [wt_coe, ← EReal.coe_mul, ← EReal.coe_mul, ← EReal.coe_sub]
      show ((Real.exp _ : ℝ) : EReal) = (((2 : ℝ) ^ (a - b) : ℝ) : EReal)
      rw [Real.rpow_def_of_pos (by norm_num)]; congr 2; ring

/-- Scaling by ln 2 keeps the order, so the maximum of the scaled scores is the scaled maximum. -/
theorem fold_max_mul {ι : Type} [Fintype ι] (s : ι → EReal) :
    Finset.univ.fold max ⊥ (fun k => s k * ((Real.log 2 : ℝ) : EReal)) = Finset.univ.fold max ⊥ s * ((Real.log 2 : ℝ) : EReal) := by
  classical
  have hp : (0 : ℝ) < Real.log 2 := Real.log_pos (by norm_num)
  have hm : Monotone fun x : EReal => x * ((Real.log 2 : ℝ) : EReal) :=
    fun a b h => mul_le_mul_of_nonneg_right h (EReal.coe_nonneg.mpr hp.le)
  induction (Finset.univ : Finset ι) using Finset.induction_on with
  | empty => exact (EReal.bot_mul_coe_of_pos hp).symm
  | insert a t ha ih => rw [Finset.fold_insert ha, Finset.fold_insert ha, ih]; exact (hm.map_max).symm

/-- A score is below the maximum of its family. -/
theorem le_fold {ι : Type} [Fintype ι] (s : ι → EReal) (k : ι) : s k ≤ Finset.univ.fold max ⊥ s :=
  ((Finset.fold_max_le _).mp le_rfl).2 k (Finset.mem_univ k)

/-! ## The running softmax -/

section Running

variable {n : ℕ} (s : ℕ → Fin n → EReal)

/-- The maximum of the first blocks of scores. -/
def mxs : ℕ → EReal
  | 0 => ⊥
  | k + 1 => max (mxs k) (Finset.univ.fold max ⊥ (s k))

/-- The weighted sum of the first blocks, rescaled at each block to the new maximum. -/
def acs (v : ℕ → Fin n → EReal) : ℕ → EReal
  | 0 => 0
  | k + 1 => Ideal.exp2 (mxs s k - mxs s (k + 1)) * acs v k + ∑ r, v k r * Ideal.exp2 (s k r - mxs s (k + 1))

theorem mxs_le (k : ℕ) : mxs s k ≤ mxs s (k + 1) := le_max_left _ _

theorem le_mxs {i : ℕ} (r : Fin n) : ∀ {k : ℕ}, i < k → s i r ≤ mxs s k
  | 0, h => absurd h (Nat.not_lt_zero _)
  | k + 1, h => by
    rcases Nat.lt_succ_iff_lt_or_eq.mp h with h | rfl
    · exact (le_mxs r h).trans (mxs_le s k)
    · exact (le_fold (s i) r).trans (le_max_right _ _)

/-- The rescaled sums are the sum of all weights so far below the last maximum. -/
theorem acs_eq (v : ℕ → Fin n → ℝ) (k : ℕ) :
    acs s (fun i r => (v i r : EReal)) k = ((∑ i ∈ Finset.range k, ∑ r, v i r * wt (s i r) (mxs s k) : ℝ) : EReal) := by
  induction k with
  | zero => rfl
  | succ k ih =>
    have h2 : ∑ r, (v k r : EReal) * Ideal.exp2 (s k r - mxs s (k + 1)) = ((∑ r, v k r * wt (s k r) (mxs s (k + 1)) : ℝ) : EReal) := by
      rw [coe_sum]
      refine Finset.sum_congr rfl fun r _ => ?_
      rw [exp2_sub (le_mxs s r (Nat.lt_succ_self k)), EReal.coe_mul]
    show Ideal.exp2 (mxs s k - mxs s (k + 1)) * acs s (fun i r => (v i r : EReal)) k + ∑ r, (v k r : EReal) * Ideal.exp2 (s k r - mxs s (k + 1)) = _
    rw [h2, ih, exp2_sub (mxs_le s k), ← EReal.coe_mul, ← EReal.coe_add, Finset.sum_range_succ, Finset.mul_sum]
    congr 2
    refine Finset.sum_congr rfl fun i hi => ?_
    rw [Finset.mul_sum]
    refine Finset.sum_congr rfl fun r _ => ?_
    rw [← wt_mul (le_mxs s r (Finset.mem_range.mp hi)) (mxs_le s k)]; ring

end Running

/-! ## Blocks joined -/

/-- A sum over blocks of consecutive numbers is the sum over all of them. -/
theorem sum_blocks {M : Type} [AddCommMonoid M] (f : ℕ → M) (n a : ℕ) :
    ∑ i ∈ Finset.range a, ∑ r : Fin n, f (n * i + r.val) = ∑ k ∈ Finset.range (n * a), f k := by
  induction a with
  | zero => simp
  | succ a ih =>
    rw [Finset.sum_range_succ, ih, Nat.mul_succ, Finset.sum_range_add, Finset.sum_range (fun x => f (n * a + x))]

/-- The key at position `r` of block `i`. -/
def at8448 (i : ℕ) (r : Fin 1408) : Fin 8448 := ⟨(1408 * i + r.val) % 8448, Nat.mod_lt _ (by decide)⟩

theorem sum_at {M : Type} [AddCommMonoid M] (f : Fin 8448 → M) :
    ∑ i ∈ Finset.range 6, ∑ r : Fin 1408, f (at8448 i r) = ∑ k, f k := by
  have h := sum_blocks (fun k => f ⟨k % 8448, Nat.mod_lt _ (by decide)⟩) 1408 6
  refine h.trans ((Finset.sum_range _).trans (Finset.sum_congr rfl fun k _ => congrArg f (Fin.ext (Nat.mod_eq_of_lt k.isLt))))

/-- The six blocks' running maximum is the maximum over all keys. -/
theorem mxs_at (σ : Fin 8448 → EReal) : mxs (fun i r => σ (at8448 i r)) 6 = Finset.univ.fold max ⊥ σ := by
  refine le_antisymm ?_ ?_
  · have h : ∀ k, mxs (fun i r => σ (at8448 i r)) k ≤ Finset.univ.fold max ⊥ σ := fun k => by
      induction k with
      | zero => exact bot_le
      | succ k ih => exact max_le ih ((Finset.fold_max_le _).mpr ⟨bot_le, fun r _ => le_fold σ _⟩)
    exact h 6
  · refine (Finset.fold_max_le _).mpr ⟨bot_le, fun k _ => ?_⟩
    have hk := k.isLt
    have e : at8448 (k.val / 1408) ⟨k.val % 1408, Nat.mod_lt _ (by decide)⟩ = k :=
      Fin.ext (by show (1408 * (k.val / 1408) + k.val % 1408) % 8448 = k.val; omega)
    have := le_mxs (fun i r => σ (at8448 i r)) (i := k.val / 1408) ⟨k.val % 1408, Nat.mod_lt _ (by decide)⟩ (k := 6) (by omega)
    rwa [e] at this

/-- What the six blocks leave: the sum over all keys of the values times the weights below the maximum over all keys. -/
theorem acs_at (σ : Fin 8448 → EReal) (ν : Fin 8448 → ℝ) :
    acs (fun i r => σ (at8448 i r)) (fun i r => (ν (at8448 i r) : EReal)) 6
      = ((∑ k, ν k * wt (σ k) (Finset.univ.fold max ⊥ σ) : ℝ) : EReal) := by
  rw [acs_eq _ (fun i r => ν (at8448 i r)), mxs_at]
  exact congrArg _ (sum_at fun k => ν k * wt (σ k) (Finset.univ.fold max ⊥ σ))

/-! ## The two orders of dividing -/

/-- An infinity or zero. -/
def IsInf0 (x : EReal) : Prop := x = ⊤ ∨ x = ⊥ ∨ x = 0

theorem isInf0_add {x y : EReal} (hx : IsInf0 x) (hy : IsInf0 y) : IsInf0 (x + y) := by
  rcases hx with rfl | rfl | rfl <;> rcases hy with rfl | rfl | rfl <;> simp [IsInf0]

theorem isInf0_sum {ι : Type} (s : Finset ι) (f : ι → EReal) (h : ∀ i, IsInf0 (f i)) : IsInf0 (∑ i ∈ s, f i) := by
  classical
  induction s using Finset.induction_on with
  | empty => exact .inr (.inr rfl)
  | insert a s ha ih => rw [Finset.sum_insert ha]; exact isInf0_add (h a) ih

theorem isInf0_mul_top (r : ℝ) : IsInf0 ((r : EReal) * ⊤) := by
  rcases lt_trichotomy r 0 with h | rfl | h
  · exact .inr (.inl (EReal.coe_mul_top_of_neg h))
  · exact .inr (.inr (by simp))
  · exact .inl (EReal.coe_mul_top_of_pos h)

theorem isInf0_mul_bot (r : ℝ) : IsInf0 ((r : EReal) * ⊥) := by
  rcases lt_trichotomy r 0 with h | rfl | h
  · exact .inl (EReal.coe_mul_bot_of_neg h)
  · exact .inr (.inr (by simp))
  · exact .inr (.inl (EReal.coe_mul_bot_of_pos h))

/-- A row over its root mean square. -/
def nrm {ι : Type} [Fintype ι] (d ε : EReal) (o : ι → EReal) (e : ι) : EReal := o e * Ideal.rsqrt (Ideal.div (∑ e', o e' * o e') d + ε)

/-- A row of infinities and zeros is sent to zero. -/
theorem nrm_zero {ι : Type} [Fintype ι] {d ε : ℝ} (hd : 0 < d) (o : ι → EReal) (h : ∀ e, IsInf0 (o e)) (e : ι) : nrm d ε o e = 0 := by
  classical
  unfold nrm
  have hsq : ∀ e, 0 ≤ o e * o e := fun e => by rcases h e with h | h | h <;> rw [h] <;> simp
  by_cases hz : o e = 0
  · rw [hz, zero_mul]
  · have ht : o e * o e = ⊤ := by
      rcases h e with h | h | h
      · rw [h]; rfl
      · rw [h]; rfl
      · exact absurd h hz
    have hs : ∑ e', o e' * o e' = ⊤ := by
      rw [← Finset.add_sum_erase _ _ (Finset.mem_univ e), ht]
      exact EReal.top_add_of_ne_bot (fun hb => absurd (Finset.sum_nonneg fun i _ => hsq i) (by rw [hb]; decide))
    have hq : Ideal.div (⊤ : EReal) (d : EReal) = ⊤ := by
      unfold Ideal.div
      rw [if_neg (by exact_mod_cast hd.ne'), ← EReal.coe_inv]
      exact EReal.top_mul_coe_of_pos (inv_pos.mpr hd)
    rw [hs, hq, EReal.top_add_coe]
    show o e * (0 : EReal) = 0
    rw [mul_zero]

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem div_zero0 : Ideal.div ((0 : ℝ) : EReal) ((0 : ℝ) : EReal) = ⊥ := by
  unfold Ideal.div
  rw [if_pos (by simp), if_neg (by simp)]

section Combine

variable {K E : Type} [Fintype K] [Fintype E] (w0 w1 : K → ℝ) (ν : E → K → ℝ) (lam : ℝ)

/-- Dividing the weighted sums by the sums of weights, as the kernel does. -/
def oKer (e : E) : EReal :=
  Ideal.div ((∑ k, ν e k * w0 k : ℝ) : EReal) ((∑ k, w0 k : ℝ) : EReal)
    - (lam : EReal) * Ideal.div ((∑ k, ν e k * w1 k : ℝ) : EReal) ((∑ k, w1 k : ℝ) : EReal)

/-- Dividing the weights before they meet the values, as the reference does. -/
def oRef (e : E) : EReal :=
  ∑ k, (ν e k : EReal) * (Ideal.div (w0 k : EReal) ((∑ k, w0 k : ℝ) : EReal) - (lam : EReal) * Ideal.div (w1 k : EReal) ((∑ k, w1 k : ℝ) : EReal))

/-- The two orders give the same row, or each a row of infinities and zeros. -/
theorem ker_ref (h0 : ∀ k, 0 ≤ w0 k) (h1 : ∀ k, 0 ≤ w1 k) :
    (∀ e, oKer w0 w1 ν lam e = oRef w0 w1 ν lam e)
      ∨ ((∀ e, IsInf0 (oKer w0 w1 ν lam e)) ∧ ∀ e, IsInf0 (oRef w0 w1 ν lam e)) := by
  have zero_of : ∀ w : K → ℝ, (∀ k, 0 ≤ w k) → ∑ k, w k = 0 → ∀ k, w k = 0 := fun w hw hs k =>
    (Finset.sum_eq_zero_iff_of_nonneg fun k _ => hw k).mp hs k (Finset.mem_univ k)
  by_cases hl0 : ∑ k, w0 k = 0
  · right
    have hw := zero_of w0 h0 hl0
    refine ⟨fun e => ?_, fun e => ?_⟩
    · unfold oKer
      rw [hl0, show (∑ k, ν e k * w0 k) = 0 from Finset.sum_eq_zero fun k _ => by rw [hw k, mul_zero], div_zero0, EReal.bot_sub]
      exact .inr (.inl rfl)
    · unfold oRef
      refine isInf0_sum _ _ fun k => ?_
      rw [hl0, hw k, div_zero0, EReal.bot_sub]
      exact isInf0_mul_bot _
  by_cases hl1 : ∑ k, w1 k = 0
  · have hw := zero_of w1 h1 hl1
    have hA : ∀ e, (∑ k, ν e k * w1 k) = 0 := fun e => Finset.sum_eq_zero fun k _ => by rw [hw k, mul_zero]
    rcases lt_trichotomy lam 0 with hn | hz | hp
    · right
      refine ⟨fun e => ?_, fun e => ?_⟩
      · unfold oKer
        rw [hl1, hA e, div_zero0, EReal.coe_mul_bot_of_neg hn, EReal.sub_top]
        exact .inr (.inl rfl)
      · unfold oRef
        refine isInf0_sum _ _ fun k => ?_
        rw [hl1, hw k, div_zero0, EReal.coe_mul_bot_of_neg hn, EReal.sub_top]
        exact isInf0_mul_bot _
    · left
      intro e
      unfold oKer oRef
      rw [hz, EReal.coe_zero, zero_mul, sub_zero, div_coe hl0, Finset.sum_div, coe_sum]
      refine Finset.sum_congr rfl fun k _ => ?_
      rw [zero_mul, sub_zero, div_coe hl0, ← EReal.coe_mul, mul_div_assoc]
    · right
      refine ⟨fun e => ?_, fun e => ?_⟩
      · unfold oKer
        rw [hl1, hA e, div_zero0, EReal.coe_mul_bot_of_pos hp, div_coe hl0, EReal.coe_sub_bot]
        exact .inl rfl
      · unfold oRef
        refine isInf0_sum _ _ fun k => ?_
        rw [hl1, hw k, div_zero0, EReal.coe_mul_bot_of_pos hp, div_coe hl0, EReal.coe_sub_bot]
        exact isInf0_mul_top _
  · left
    intro e
    unfold oKer oRef
    rw [div_coe hl0, div_coe hl1, ← EReal.coe_mul, ← EReal.coe_sub, Finset.sum_div, Finset.sum_div, Finset.mul_sum, ← Finset.sum_sub_distrib, coe_sum]
    refine Finset.sum_congr rfl fun k _ => ?_
    rw [div_coe hl0, div_coe hl1, ← EReal.coe_mul, ← EReal.coe_sub, ← EReal.coe_mul]
    congr 1
    ring

/-- Over its root mean square the row is the same in both orders. -/
theorem nrm_ker_ref {d ε : ℝ} (hd : 0 < d) (h0 : ∀ k, 0 ≤ w0 k) (h1 : ∀ k, 0 ≤ w1 k) (e : E) :
    nrm d ε (oKer w0 w1 ν lam) e = nrm d ε (oRef w0 w1 ν lam) e := by
  rcases ker_ref w0 w1 ν lam h0 h1 with h | ⟨hk, hr⟩
  · rw [funext h]
  · rw [nrm_zero hd _ hk, nrm_zero hd _ hr]

end Combine

end Cert.Proof.Softmax

end
-- ==== Proof.AttnValue.lean ====
module

public import proofs.«01_k».proof.Proof.AttnReadIdeal
public import proofs.«01_k».proof.Proof.SoftmaxMath
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen Cert.Proof.Softmax
open Idealize.ShloMosaic Idealize.ShloMosaic.TcCoe Idealize.SL.Sem

/-! ## One head's attention over the extended reals -/

/-- Lane `d` of half `c` of a head. -/
def hd (c : Fin 2) (d : Fin 64) : Fin 128 := ⟨64 * c.val + d.val, by omega⟩

/-- Column `p` of half `c` of a stacked query block. -/
def jc (c : Fin 2) (p : Fin 512) : Fin 1024 := ⟨512 * c.val + p.val, by omega⟩

/-- Query row `p` of block `b`. -/
def qi (b : ℕ) (p : Fin 512) : Fin 8192 := ⟨(512 * b + p.val) % 8192, Nat.mod_lt _ (by decide)⟩

/-- The score of query `i` and key `k` in half `c` of the head. -/
def sg (Q : FVec Ideal S8192x128 .bf16) (K : FVec Ideal S8448x128 .bf16) (i : Fin 8192) (c : Fin 2) (k : Fin 8448) : EReal :=
  ∑ d : Fin 64, K (ix2 k (hd c d)) * Q (ix2 i (hd c d))

/-- The weight of key `k` for query `i` in half `c`. -/
def wg (Q : FVec Ideal S8192x128 .bf16) (K : FVec Ideal S8448x128 .bf16) (i : Fin 8192) (c : Fin 2) (k : Fin 8448) : ℝ :=
  wt (sg Q K i c k) (Finset.univ.fold max ⊥ (sg Q K i c))

theorem wg_nonneg (Q : FVec Ideal S8192x128 .bf16) (K : FVec Ideal S8448x128 .bf16) (i : Fin 8192) (c : Fin 2) (k : Fin 8448) : 0 ≤ wg Q K i c k :=
  wt_nonneg (le_fold _ k)

/-- A sum over a head's lanes is the sum over its two halves. -/
theorem sum_halves (f : Fin 128 → EReal) : ∑ d, f d = ∑ d : Fin 64, f (hd 0 d) + ∑ d : Fin 64, f (hd 1 d) := by
  refine (Fin.sum_univ_add (a := 64) (b := 64) f).trans ?_
  refine congrArg₂ (· + ·) (Finset.sum_congr rfl fun d _ => congrArg f (Fin.ext ?_)) (Finset.sum_congr rfl fun d _ => congrArg f (Fin.ext ?_))
  · show d.val = 64 * 0 + d.val
    omega
  · show 64 + d.val = 64 * 1 + d.val
    omega

theorem cmp_slt : ∀ d : Fin 128, IntOp.cmpi CmpIPredicate.slt (BitVec.ofNat 32 d.val) 64#32 = if d.val < 64 then 1#1 else 0#1 := by decide
theorem cmp_sge : ∀ d : Fin 128, IntOp.cmpi CmpIPredicate.sge (BitVec.ofNat 32 d.val) 64#32 = if d.val < 64 then 0#1 else 1#1 := by decide

/-- The stacked query block: in the columns of half `c` only the lanes of half `c` are kept. -/
theorem pay11_at (x : FVec Ideal S512x128 .bf16) (c : Fin 2) (p : Fin 512) (c' : Fin 2) (d : Fin 64) :
    k0_pay11 (F := Ideal) x (ix2 (hd c' d) (jc c p)) = if c' = c then (x (ix2 p (hd c' d)) : EReal) else 0 := by
  pointwise [k0_pay11]
  simp only [ix2_0, ix2_1, cmp_slt, cmp_sge]
  have hd' := d.isLt
  have hp := p.isLt
  match c, c' with
  | 0, 0 =>
    refine (dif_pos (show (jc 0 p).val < 512 by show 512 * 0 + p.val < 512; omega)).trans ?_
    refine (congrArg (fun b => Scalar.select b _ _) (if_pos (show (hd 0 d).val < 64 by show 64 * 0 + d.val < 64; omega))).trans ?_
    refine Eq.trans ?_ (if_pos rfl).symm
    exact congrArg x (congrArg (fun i => ix2 i (hd 0 d)) (Fin.ext (show 512 * 0 + p.val = p.val by omega)))
  | 0, 1 =>
    refine (dif_pos (show (jc 0 p).val < 512 by show 512 * 0 + p.val < 512; omega)).trans ?_
    refine (congrArg (fun b => Scalar.select b _ _) (if_neg (show ¬ (hd 1 d).val < 64 by show ¬ 64 * 1 + d.val < 64; omega))).trans ?_
    refine Eq.trans ?_ (if_neg (show ¬ (1 : Fin 2) = 0 by decide)).symm
    rfl
  | 1, 0 =>
    refine (dif_neg (show ¬ (jc 1 p).val < 512 by show ¬ 512 * 1 + p.val < 512; omega)).trans ?_
    refine (congrArg (fun b => Scalar.select b _ _) (if_pos (show (hd 0 d).val < 64 by show 64 * 0 + d.val < 64; omega))).trans ?_
    refine Eq.trans ?_ (if_neg (show ¬ (0 : Fin 2) = 1 by decide)).symm
    rfl
  | 1, 1 =>
    refine (dif_neg (show ¬ (jc 1 p).val < 512 by show ¬ 512 * 1 + p.val < 512; omega)).trans ?_
    refine (congrArg (fun b => Scalar.select b _ _) (if_neg (show ¬ (hd 1 d).val < 64 by show ¬ 64 * 1 + d.val < 64; omega))).trans ?_
    refine Eq.trans ?_ (if_pos rfl).symm
    exact congrArg x (congrArg (fun i => ix2 i (hd 1 d)) (Fin.ext (show 512 * 1 + p.val - 512 = p.val by omega)))

theorem bot_word : Ideal.ofBits FTy.f32 4286578688#32 = ⊥ := by simp [Ideal.ofBits, Ideal.ieee]

section Walk
variable (q : FVec Ideal S128x1024 .bf16) (K : FVec Ideal S8448x128 .bf16) (V : FVec Ideal S128x8448 .bf16)

/-- The scores of key block `n`, at an index. -/
theorem scr_at (n : ℕ) (x : Fin 1408) (j : Fin 1024) :
    scr (F := Ideal) q K n (ix2 x j) = (∑ d, K (ix2 (at8448 n x) d) * q (ix2 d j) : EReal) := by
  unfold scr
  pointwise [k0_pay2]
  exact Finset.sum_congr rfl fun d _ => congrArg (fun z : EReal => z * q (ix2 d j)) (congrArg K (funext fun a => match a with
    | ⟨0, _⟩ => rfl
    | ⟨1, _⟩ => rfl))

theorem srun_eq (n : ℕ) : srun (F := Ideal) q K (scr (F := Ideal) q K 0) n = scr (F := Ideal) q K n := by cases n <;> rfl

/-- The running maxima, at an index. -/
theorem mrun_at (n : ℕ) (j : Fin 1024) : mrun (F := Ideal) q K (scr (F := Ideal) q K 0) n (ix2 0 j)
    = mxs (fun n x => (scr (F := Ideal) q K n (ix2 x j) : EReal)) n := by
  induction n with
  | zero =>
    show k0_pay9 (F := Ideal) (ix2 0 j) = ⊥
    pointwise [k0_pay9]
    exact bot_word
  | succ n ih =>
    show mx (F := Ideal) (srun (F := Ideal) q K (scr (F := Ideal) q K 0) n) (mrun (F := Ideal) q K (scr (F := Ideal) q K 0) n) (ix2 0 j) = _
    rw [srun_eq]
    pointwise [mx, k0_pay5, k0_pay3]
    rw [ih, bot_word]
    rfl

/-- The accumulator's row `r`: the values' row, or ones below the values. -/
def vrow (r : Fin 144) (k : Fin 8448) : EReal := if h : r.val < 128 then V (ix2 ⟨r.val, h⟩ k) else 1

/-- The accumulator, at an index. -/
theorem arun_at (o : FVec Ideal S16x1408 .bf16) (ho : ∀ y, (o y : EReal) = 1) (n : ℕ) (r : Fin 144) (j : Fin 1024) : arun (F := Ideal) o q K V (scr (F := Ideal) q K 0) n (ix2 r j)
    = acs (fun n x => (scr (F := Ideal) q K n (ix2 x j) : EReal)) (fun n x => vrow V r (at8448 n x)) n := by
  induction n with
  | zero =>
    show k0_pay10 (F := Ideal) (ix2 r j) = 0
    pointwise [k0_pay10]
  | succ n ih =>
    show ac (F := Ideal) o (srun (F := Ideal) q K (scr (F := Ideal) q K 0) n) (vblk (F := Ideal) V n)
      (mrun (F := Ideal) q K (scr (F := Ideal) q K 0) n) (arun (F := Ideal) o q K V (scr (F := Ideal) q K 0) n) (ix2 r j) = _
    rw [srun_eq]
    pointwise [ac, k0_pay4, k0_pay3]
    rw [ih, mrun_at, bot_word]
    refine congrArg (fun z : EReal => _ + z) (Finset.sum_congr rfl fun x _ => ?_)
    refine congrArg (fun z : EReal => z * _) ?_
    show _ = vrow V r (at8448 n x)
    unfold vrow
    by_cases h : r.val < 128
    · rw [dif_pos h, dif_pos h]
      exact congrArg V (funext fun a => match a with
        | ⟨0, _⟩ => rfl
        | ⟨1, _⟩ => rfl)
    · rw [dif_neg h, dif_neg h]
      exact ho _

end Walk

section Head
variable (Q : FVec Ideal S8192x128 .bf16) (K : FVec Ideal S8448x128 .bf16) (V : FVec Ideal S128x8448 .bf16)

/-- A stacked column's score is the score of its query in its half. -/
theorem scr_qst (b n : ℕ) (x : Fin 1408) (c : Fin 2) (p : Fin 512) :
    (scr (F := Ideal) (qst (F := Ideal) Q b) K n (ix2 x (jc c p)) : EReal) = sg Q K (qi b p) c (at8448 n x) := by
  rw [scr_at, sum_halves]
  have hz : ∀ c' d, c' ≠ c → (K (ix2 (at8448 n x) (hd c' d)) * qst (F := Ideal) Q b (ix2 (hd c' d) (jc c p)) : EReal) = 0 := fun c' d h => by
    refine (congrArg (fun z : EReal => K (ix2 (at8448 n x) (hd c' d)) * z) ((pay11_at _ c p c' d).trans (if_neg h))).trans (mul_zero _)
  have hs : ∀ d, (K (ix2 (at8448 n x) (hd c d)) * qst (F := Ideal) Q b (ix2 (hd c d) (jc c p)) : EReal) = K (ix2 (at8448 n x) (hd c d)) * Q (ix2 (qi b p) (hd c d)) := fun d => by
    refine (congrArg (fun z : EReal => K (ix2 (at8448 n x) (hd c d)) * z) ((pay11_at _ c p c d).trans (if_pos rfl))).trans ?_
    exact congrArg (fun z : EReal => K (ix2 (at8448 n x) (hd c d)) * z) (congrArg Q (funext fun a => match a with
      | ⟨0, _⟩ => rfl
      | ⟨1, _⟩ => rfl))
  match c with
  | 0 => rw [Finset.sum_eq_zero (f := fun d => (K (ix2 (at8448 n x) (hd 1 d)) * qst (F := Ideal) Q b (ix2 (hd 1 d) (jc 0 p)) : EReal)) fun d _ => hz 1 d (by decide), add_zero]; exact Finset.sum_congr rfl fun d _ => hs d
  | 1 => rw [Finset.sum_eq_zero (f := fun d => (K (ix2 (at8448 n x) (hd 0 d)) * qst (F := Ideal) Q b (ix2 (hd 0 d) (jc 1 p)) : EReal)) fun d _ => hz 0 d (by decide), zero_add]; exact Finset.sum_congr rfl fun d _ => hs d

theorem ones (y : S16x1408.Idx) : (k0_pay26 (F := Ideal) y : EReal) = 1 := by pointwise [k0_pay26]

/-- The accumulator of a query block: the sums of the values under the weights, and of the weights. -/
theorem acc_at (b : ℕ) (r : Fin 144) (c : Fin 2) (p : Fin 512) (v : Fin 8448 → ℝ) (hv : ∀ k, vrow V r k = (v k : EReal)) :
    (accOf (F := Ideal) Q K V b (ix2 r (jc c p)) : EReal) = ((∑ k, v k * wg Q K (qi b p) c k : ℝ) : EReal) := by
  refine (arun_at (qst (F := Ideal) Q b) K V (k0_pay26 (F := Ideal)) ones 6 r (jc c p)).trans ?_
  refine Eq.trans ?_ (acs_at (sg Q K (qi b p) c) v)
  exact congrArg₂ (fun s w => acs s w 6) (funext fun n => funext fun x => scr_qst Q K b n x c p) (funext fun n => funext fun x => hv _)

end Head

/-- The last step of a query block: each half's weighted values over its weights, the difference, the norm. -/
theorem pay19_at (l : FVec Ideal S1x1 .f32) (a : FVec Ideal S144x1024 .f32) (G : FVec Ideal S1x128 .f32) (p : Fin 512) (e : Fin 128)
    (w0 w1 : Fin 8448 → ℝ) (ν : Fin 128 → Fin 8448 → ℝ) (lam : ℝ) (hl : (l (ix2 0 0) : EReal) = (lam : EReal))
    (h0 : ∀ r : Fin 128, (a (ix2 (⟨r.val, by omega⟩ : Fin 144) (jc 0 p)) : EReal) = ((∑ k, ν r k * w0 k : ℝ) : EReal))
    (h1 : ∀ r : Fin 128, (a (ix2 (⟨r.val, by omega⟩ : Fin 144) (jc 1 p)) : EReal) = ((∑ k, ν r k * w1 k : ℝ) : EReal))
    (s0 : (a (ix2 (128 : Fin 144) (jc 0 p)) : EReal) = ((∑ k, w0 k : ℝ) : EReal))
    (s1 : (a (ix2 (128 : Fin 144) (jc 1 p)) : EReal) = ((∑ k, w1 k : ℝ) : EReal)) :
    (k0_pay19 (F := Ideal) l a G (ix2 p e) : EReal)
      = nrm (Ideal.ofBits .f32 0x43000000#32) (Ideal.ofBits .f32 0x358637BD#32) (oKer w0 w1 ν lam) e
        * G (ix2 0 e) * Ideal.ofBits .f32 0x3F4CCCCD#32 := by
  have hp := p.isLt
  have e0 : (⟨p.val, by omega⟩ : Fin 1024) = jc 0 p := Fin.ext (show p.val = 512 * 0 + p.val by omega)
  have e1 : (⟨512 + p.val, by omega⟩ : Fin 1024) = jc 1 p := Fin.ext (show 512 + p.val = 512 * 1 + p.val by omega)
  pointwise [k0_pay19]
  simp only [e0, e1, hl, h0, h1, s0, s1]
  rfl

section Head2
variable (Q : FVec Ideal S8192x128 .bf16) (K : FVec Ideal S8448x128 .bf16) (V : FVec Ideal S128x8448 .bf16)

/-- A query block's rows: the normed row of the two softmaxes' difference. -/
theorem rows_at (L : FVec Ideal S8x128 .f32) (G : FVec Ideal S1x128 .f32) (b : ℕ) (p : Fin 512) (e : Fin 128) (ν : Fin 128 → Fin 8448 → ℝ)
    (hv : ∀ e k, (V (ix2 e k) : EReal) = (ν e k : EReal)) (lam : ℝ)
    (hl : (k0_pay29 (F := Ideal) (k0_pay27 (F := Ideal) L) (k0_pay28 (F := Ideal)) (ix2 0 0) : EReal) = (lam : EReal)) :
    (rowsOf (F := Ideal) Q K V L G b (ix2 p e) : EReal)
      = nrm (Ideal.ofBits .f32 0x43000000#32) (Ideal.ofBits .f32 0x358637BD#32) (oKer (wg Q K (qi b p) 0) (wg Q K (qi b p) 1) ν lam) e
        * G (ix2 0 e) * Ideal.ofBits .f32 0x3F4CCCCD#32 := by
  have h : ∀ (r : Fin 128) c, (accOf (F := Ideal) Q K V b (ix2 (⟨r.val, by omega⟩ : Fin 144) (jc c p)) : EReal) = ((∑ k, ν r k * wg Q K (qi b p) c k : ℝ) : EReal) :=
    fun r c => acc_at Q K V b _ c p (ν r) fun k => (dif_pos r.isLt).trans (hv r k)
  have h1 : ∀ c, (accOf (F := Ideal) Q K V b (ix2 (128 : Fin 144) (jc c p)) : EReal) = ((∑ k, wg Q K (qi b p) c k : ℝ) : EReal) := fun c => by
    refine (acc_at Q K V b 128 c p (fun _ => 1) fun k => dif_neg (by decide)).trans ?_
    simp only [one_mul]
  exact pay19_at _ _ G p e _ _ ν lam hl (fun r => h r 0) (fun r => h r 1) (h1 0) (h1 1)

end Head2

end Cert.Proof.KernelIdeal

end
-- ==== Proof.AttnReference.lean ====
module

public import proofs.«01_k».proof.Proof.AttnValue
public import proofs.«01_k».proof.Proof.Gen.ReferenceIdeal.Read

@[expose] public section

set_option maxRecDepth 16384

noncomputable section

namespace Cert.Proof.KernelIdeal

open Cert.ReferenceIdeal Cert.ReferenceIdeal.Gen Cert.ReferenceIdeal.Read Cert.Proof.Softmax
open Idealize.ShloMosaic Idealize.ShloMosaic.TcCoe Idealize.SL.Sem

/-- Lane `d` of head `h` among the columns of all heads. -/
def hcol (h : Fin 8) (d : Fin 128) : Fin 1024 := ⟨128 * h.val + d.val, by omega⟩

/-- The columns of head `h`. -/
def colsOf {n : ℕ} (x : FVec Ideal ⟨2, ![n, 1024]⟩ .bf16) (h : Fin 8) : FVec Ideal ⟨2, ![n, 128]⟩ .bf16 := fun y => x (ix2 (y 0) (hcol h (y 1)))

/-- The rows of head `h`. -/
def rowsAt {n : ℕ} (x : FVec Ideal ⟨2, ![1024, n]⟩ .bf16) (h : Fin 8) : FVec Ideal ⟨2, ![128, n]⟩ .bf16 := fun y => x (ix2 (hcol h (y 0)) (y 1))

section
variable (x0 : FVec Ideal S8192x1024 .bf16) (x1 : FVec Ideal S256x1024 .bf16) (x2 : FVec Ideal S8192x1024 .bf16)

/-- The reference's scores before the factor ln 2. -/
theorem ref_v22 (h : Fin 8) (c : Fin 2) (i : Fin 8192) (k : Fin 8448) :
    (val_main_v22 (F := Ideal) x0 x1 x2 (ix4 h c i k) : EReal)
      = sg (colsOf x0 h) (catK (F := Ideal) (colsOf x1 h) (colsOf x2 h)) i c k := by
  rw [val_main_v22_apply]
  unfold sg
  refine Finset.sum_congr rfl fun d _ => ?_
  refine (mul_comm (G := EReal) _ _).trans (congrArg₂ (fun a b : EReal => a * b) ?_ ?_)
  · have hd0 := d.isLt
    have hh := h.isLt
    have hc := c.isLt
    have e : (⟨h.val * 128 + c.val * 64 + d.val, by omega⟩ : Fin 1024) = hcol h (hd c d) :=
      Fin.ext (show h.val * 128 + c.val * 64 + d.val = 128 * h.val + (64 * c.val + d.val) by omega)
    pointwise [val_main_v16, val_main_v15, val_main_v14]
    simp only [e]
    unfold catK
    by_cases hk : k.val < 256
    · rw [dif_pos hk]
      refine Eq.trans ?_ (dif_pos (show (ix2 k (hd c d) 0).val < 256 from hk)).symm
      rfl
    · rw [dif_neg hk]
      refine Eq.trans ?_ (dif_neg (show ¬ (ix2 k (hd c d) 0).val < 256 from hk)).symm
      rfl
  · have hd0 := d.isLt
    have hh := h.isLt
    have hc := c.isLt
    have e : (⟨h.val * 128 + c.val * 64 + d.val, by omega⟩ : Fin 1024) = hcol h (hd c d) :=
      Fin.ext (show h.val * 128 + c.val * 64 + d.val = 128 * h.val + (64 * c.val + d.val) by omega)
    pointwise [val_main_v13, val_main_v12]
    simp only [e]
    rfl

theorem two_word : Ideal.ofBits FTy.f32 0x40000000#32 = ((2 : ℝ) : EReal) := by
  simp [Ideal.ofBits, Ideal.ieee, -EReal.coe_mul]; norm_num

/-- The reference's factor. -/
theorem ref_v23 (y : S_.Idx) : (val_main_v23 (F := Ideal) y : EReal) = ((Real.log 2 : ℝ) : EReal) := by
  pointwise [val_main_v23, val_main_cst_2]
  rw [two_word]
  show (if (2 : ℝ) ≤ 0 then (⊥ : EReal) else ((Real.log 2 : ℝ) : EReal)) = _
  rw [if_neg (by norm_num)]

/-- The reference's maxima, from the scores. -/
theorem v26_at (h : Fin 8) (c : Fin 2) (i : Fin 8192) :
    (val_main_v26 (F := Ideal) x0 x1 x2 (ix3 h c i) : EReal)
      = Finset.univ.fold max (Ideal.ofBits .f32 0xFF800000#32) fun k : Fin 8448 => (val_main_v22 (F := Ideal) x0 x1 x2 (ix4 h c i k) * val_main_v23 (F := Ideal) ix0 : EReal) := by
  unfold val_main_v26 val_main_v25 val_main_v24 val_main_cst_3
  generalize val_main_v22 (F := Ideal) x0 x1 x2 = y
  generalize val_main_v23 (F := Ideal) = l
  pointwise []

/-- The reference's maxima over the keys. -/
theorem ref_v26 (h : Fin 8) (c : Fin 2) (i : Fin 8192) :
    (val_main_v26 (F := Ideal) x0 x1 x2 (ix3 h c i) : EReal)
      = Finset.univ.fold max ⊥ (sg (colsOf x0 h) (catK (F := Ideal) (colsOf x1 h) (colsOf x2 h)) i c) * ((Real.log 2 : ℝ) : EReal) := by
  rw [v26_at, ← fold_max_mul, ref_v23, bot_word]
  exact congrArg (fun f : Fin 8448 → EReal => Finset.univ.fold max ⊥ f) (funext fun k => congrArg (fun z : EReal => z * ((Real.log 2 : ℝ) : EReal)) (ref_v22 x0 x1 x2 h c i k))

/-- The reference's exponentials, from the scores and the maxima. -/
theorem v32_at (h : Fin 8) (c : Fin 2) (i : Fin 8192) (k : Fin 8448) :
    (val_main_v32 (F := Ideal) x0 x1 x2 (ix4 h c i k) : EReal)
      = Ideal.exp (val_main_v22 (F := Ideal) x0 x1 x2 (ix4 h c i k) * val_main_v23 (F := Ideal) ix0
          - max (Ideal.ofBits .f32 0xFF800000#32) (val_main_v26 (F := Ideal) x0 x1 x2 (ix3 h c i)) : EReal) := by
  rw [val_main_v32_apply, val_main_v31_apply, val_main_v30_apply, val_main_v29_apply, val_main_v28_apply, val_main_v27_apply, val_main_cst_4_apply,
    val_main_v25_apply, val_main_v24_apply]
  have e : idx_main_v29 (idx_main_v30 (ix4 h c i k)) = ix3 h c i := funext fun a => match a with
    | ⟨0, _⟩ => rfl
    | ⟨1, _⟩ => rfl
    | ⟨2, _⟩ => rfl
  rw [e, show idx_main_v24 (ix4 h c i k) = ix0 from funext fun a => a.elim0]
  generalize val_main_v26 (F := Ideal) x0 x1 x2 (ix3 h c i) = m
  generalize val_main_v22 (F := Ideal) x0 x1 x2 (ix4 h c i k) = y
  generalize val_main_v23 (F := Ideal) ix0 = l
  rfl

/-- The reference's exponentials are the weights. -/
theorem ref_v32 (h : Fin 8) (c : Fin 2) (i : Fin 8192) (k : Fin 8448) :
    (val_main_v32 (F := Ideal) x0 x1 x2 (ix4 h c i k) : EReal)
      = (wg (colsOf x0 h) (catK (F := Ideal) (colsOf x1 h) (colsOf x2 h)) i c k : EReal) := by
  rw [v32_at, ref_v22, ref_v23, ref_v26, bot_word, max_eq_right bot_le]
  unfold wg
  generalize sg (colsOf x0 h) (catK (F := Ideal) (colsOf x1 h) (colsOf x2 h)) i c = σ
  exact exp_sub (le_fold σ k)

/-- The reference's softmax, from the exponentials. -/
theorem v36_at (h : Fin 8) (c : Fin 2) (i : Fin 8192) (k : Fin 8448) :
    (val_main_v36 (F := Ideal) x0 x1 x2 (ix4 h c i k) : EReal)
      = Ideal.div (val_main_v32 (F := Ideal) x0 x1 x2 (ix4 h c i k)) (∑ k : Fin 8448, val_main_v32 (F := Ideal) x0 x1 x2 (ix4 h c i k) : EReal) := by
  unfold val_main_v36 val_main_v35 val_main_v34 val_main_v33 val_main_cst_5
  generalize val_main_v32 (F := Ideal) x0 x1 x2 = y
  pointwise []

/-- The reference's softmax. -/
theorem ref_v36 (h : Fin 8) (c : Fin 2) (i : Fin 8192) (k : Fin 8448) :
    (val_main_v36 (F := Ideal) x0 x1 x2 (ix4 h c i k) : EReal)
      = Ideal.div (wg (colsOf x0 h) (catK (F := Ideal) (colsOf x1 h) (colsOf x2 h)) i c k : EReal)
          ((∑ k, wg (colsOf x0 h) (catK (F := Ideal) (colsOf x1 h) (colsOf x2 h)) i c k : ℝ) : EReal) := by
  rw [v36_at, coe_sum]
  refine congrArg₂ Ideal.div (ref_v32 x0 x1 x2 h c i k) (Finset.sum_congr rfl fun k _ => ref_v32 x0 x1 x2 h c i k)

variable (x5 x6 x7 x8 : FVec Ideal S1x64 .f32)

/-- The reference's difference of the two softmaxes, from the softmaxes. -/
theorem v43_at (h : Fin 8) (i : Fin 8192) (k : Fin 8448) :
    (val_main_v43 (F := Ideal) x0 x1 x2 x5 x6 x7 x8 (ix3 h i k) : EReal)
      = (val_main_v36 (F := Ideal) x0 x1 x2 (ix4 h 0 i k) - val_main_v11 (F := Ideal) x5 x6 x7 x8 ix0 * val_main_v36 (F := Ideal) x0 x1 x2 (ix4 h 1 i k) : EReal) := by
  rw [val_main_v43_apply, val_main_v42_apply, val_main_v41_apply, val_main_v38_apply, val_main_v37_apply, val_main_v40_apply, val_main_v39_apply]
  have hh := h.isLt
  have hi := i.isLt
  have hk := k.isLt
  have e : idx_main_v38 (ix3 h i k) = ix4 h 0 i k := funext fun a => match a with
    | ⟨0, _⟩ => Fin.ext (show ((h.val * 8192 + i.val) * 8448 + k.val) / 69206016 = h.val by omega)
    | ⟨1, _⟩ => rfl
    | ⟨2, _⟩ => Fin.ext (show ((h.val * 8192 + i.val) * 8448 + k.val) / 8448 % 8192 = i.val by omega)
    | ⟨3, _⟩ => Fin.ext (show ((h.val * 8192 + i.val) * 8448 + k.val) % 8448 = k.val by omega)
  have e' : idx_main_v40 (ix3 h i k) = ix4 h 0 i k := e
  have e0 : idx_main_v37 (ix4 h 0 i k) = ix4 h 0 i k := funext fun a => match a with
    | ⟨0, _⟩ => rfl
    | ⟨1, _⟩ => rfl
    | ⟨2, _⟩ => rfl
    | ⟨3, _⟩ => rfl
  have e1 : idx_main_v39 (ix4 h 0 i k) = ix4 h 1 i k := funext fun a => match a with
    | ⟨0, _⟩ => rfl
    | ⟨1, _⟩ => rfl
    | ⟨2, _⟩ => rfl
    | ⟨3, _⟩ => rfl
  rw [e, e', e0, e1, show idx_main_v41 (ix3 h i k) = ix0 from funext fun a => a.elim0]
  generalize val_main_v36 (F := Ideal) x0 x1 x2 (ix4 h 0 i k) = y
  generalize val_main_v36 (F := Ideal) x0 x1 x2 (ix4 h 1 i k) = z
  generalize val_main_v11 (F := Ideal) x5 x6 x7 x8 ix0 = l
  rfl

/-- The reference's difference of the two softmaxes. -/
theorem ref_v43 (h : Fin 8) (i : Fin 8192) (k : Fin 8448) (lam : ℝ) (hl : (val_main_v11 (F := Ideal) x5 x6 x7 x8 ix0 : EReal) = (lam : EReal)) :
    (val_main_v43 (F := Ideal) x0 x1 x2 x5 x6 x7 x8 (ix3 h i k) : EReal)
      = Ideal.div (wg (colsOf x0 h) (catK (F := Ideal) (colsOf x1 h) (colsOf x2 h)) i 0 k : EReal)
          ((∑ k, wg (colsOf x0 h) (catK (F := Ideal) (colsOf x1 h) (colsOf x2 h)) i 0 k : ℝ) : EReal)
        - (lam : EReal) * Ideal.div (wg (colsOf x0 h) (catK (F := Ideal) (colsOf x1 h) (colsOf x2 h)) i 1 k : EReal)
          ((∑ k, wg (colsOf x0 h) (catK (F := Ideal) (colsOf x1 h) (colsOf x2 h)) i 1 k : ℝ) : EReal) := by
  rw [v43_at, hl, ref_v36, ref_v36]

variable (x3 : FVec Ideal S1024x256 .bf16) (x4 : FVec Ideal S1024x8192 .bf16)

/-- The reference's values. -/
theorem ref_v21 (h : Fin 8) (e : Fin 128) (k : Fin 8448) :
    (val_main_v21 (F := Ideal) x3 x4 (ix3 k h e) : EReal) = catV (F := Ideal) (rowsAt x3 h) (rowsAt x4 h) (ix2 e k) := by
  have he := e.isLt
  have hh := h.isLt
  have ec : (⟨h.val * 128 + e.val, by omega⟩ : Fin 1024) = hcol h e :=
    Fin.ext (show h.val * 128 + e.val = 128 * h.val + e.val by omega)
  pointwise [val_main_v21, val_main_v20, val_main_v19, val_main_v18, val_main_v17]
  simp only [ec]
  unfold catV
  by_cases hk : k.val < 256
  · rw [dif_pos hk]
    refine Eq.trans ?_ (dif_pos (show (ix2 e k 1).val < 256 from hk)).symm
    rfl
  · rw [dif_neg hk]
    refine Eq.trans ?_ (dif_neg (show ¬ (ix2 e k 1).val < 256 from hk)).symm
    rfl

/-- The reference's rows before the norm. -/
theorem ref_v44 (h : Fin 8) (e : Fin 128) (i : Fin 8192) (lam : ℝ) (hl : (val_main_v11 (F := Ideal) x5 x6 x7 x8 ix0 : EReal) = (lam : EReal))
    (ν : Fin 128 → Fin 8448 → ℝ) (hv : ∀ e k, (catV (F := Ideal) (rowsAt x3 h) (rowsAt x4 h) (ix2 e k) : EReal) = (ν e k : EReal)) :
    (val_main_v44 (F := Ideal) x0 x1 x2 x3 x4 x5 x6 x7 x8 (ix3 h e i) : EReal)
      = oRef (wg (colsOf x0 h) (catK (F := Ideal) (colsOf x1 h) (colsOf x2 h)) i 0) (wg (colsOf x0 h) (catK (F := Ideal) (colsOf x1 h) (colsOf x2 h)) i 1) ν lam e := by
  rw [val_main_v44_apply]
  unfold oRef
  refine Finset.sum_congr rfl fun k _ => congrArg₂ (fun a b : EReal => a * b) ?_ ?_
  · refine Eq.trans (congrArg (val_main_v21 (F := Ideal) x3 x4) ?_) ((ref_v21 x3 x4 h e k).trans (hv e k))
    exact funext fun a => match a with
      | ⟨0, _⟩ => rfl
      | ⟨1, _⟩ => rfl
      | ⟨2, _⟩ => rfl
  · refine Eq.trans (congrArg (val_main_v43 (F := Ideal) x0 x1 x2 x5 x6 x7 x8) ?_) (ref_v43 x0 x1 x2 x5 x6 x7 x8 h i k lam hl)
    exact funext fun a => match a with
      | ⟨0, _⟩ => rfl
      | ⟨1, _⟩ => rfl
      | ⟨2, _⟩ => rfl

/-- The reference's result, from the rows before the norm. -/
theorem v63_at (x9 : FVec Ideal S1x128 .f32) (h : Fin 8) (e : Fin 128) (i : Fin 8192) :
    (val_main_v63 (F := Ideal) x0 x1 x2 x3 x4 x5 x6 x7 x8 x9 (ix2 i (hcol h e)) : EReal)
      = nrm (Ideal.ofBits .f32 0x43000000#32) (Ideal.ofBits .f32 0x358637BD#32) (fun e => (val_main_v44 (F := Ideal) x0 x1 x2 x3 x4 x5 x6 x7 x8 (ix3 h e i) : EReal)) e
        * x9 (ix2 0 e) * Ideal.ofBits .f32 0x3F4CCCCD#32 := by
  have he := e.isLt
  have hh := h.isLt
  have hq : (⟨(hcol h e).val / 128, by show (128 * h.val + e.val) / 128 < 8; omega⟩ : Fin 8) = h := Fin.ext (by show (128 * h.val + e.val) / 128 = h.val; omega)
  have hr : (⟨(hcol h e).val % 128, Nat.mod_lt _ (by decide)⟩ : Fin 128) = e := Fin.ext (by show (128 * h.val + e.val) % 128 = e.val; omega)
  unfold nrm val_main_v63 val_main_v62 val_main_v61 val_main_v60 val_main_cst_9 val_main_v59 val_main_v58 val_main_v57 val_main_v56 val_main_v55 val_main_v54
    val_main_v53 val_main_v52 val_main_v51 val_main_cst_8 val_main_v50 val_main_v49 val_main_cst_7 val_main_v48 val_main_v47 val_main_cst_6 val_main_v46 val_main_v45
  generalize val_main_v44 (F := Ideal) x0 x1 x2 x3 x4 x5 x6 x7 x8 = y
  pointwise []
  simp only [hq, hr]

/-- The reference's result: the normed row of the two softmaxes' difference. -/
theorem ref_v63 (x9 : FVec Ideal S1x128 .f32) (h : Fin 8) (e : Fin 128) (i : Fin 8192) (lam : ℝ)
    (hl : (val_main_v11 (F := Ideal) x5 x6 x7 x8 ix0 : EReal) = (lam : EReal))
    (ν : Fin 128 → Fin 8448 → ℝ) (hv : ∀ e k, (catV (F := Ideal) (rowsAt x3 h) (rowsAt x4 h) (ix2 e k) : EReal) = (ν e k : EReal)) :
    (val_main_v63 (F := Ideal) x0 x1 x2 x3 x4 x5 x6 x7 x8 x9 (ix2 i (hcol h e)) : EReal)
      = nrm (Ideal.ofBits .f32 0x43000000#32) (Ideal.ofBits .f32 0x358637BD#32)
          (oRef (wg (colsOf x0 h) (catK (F := Ideal) (colsOf x1 h) (colsOf x2 h)) i 0) (wg (colsOf x0 h) (catK (F := Ideal) (colsOf x1 h) (colsOf x2 h)) i 1) ν lam) e
        * x9 (ix2 0 e) * Ideal.ofBits .f32 0x3F4CCCCD#32 := by
  rw [v63_at]
  refine congrArg (fun o : Fin 128 → EReal => nrm _ _ o e * x9 (ix2 0 e) * Ideal.ofBits .f32 0x3F4CCCCD#32) (funext fun e => ?_)
  exact ref_v44 x0 x1 x2 x5 x6 x7 x8 x3 x4 h e i lam hl ν hv

end

end Cert.Proof.KernelIdeal

end
-- ==== Proof.AttnBodyIdeal.lean ====
module

public import proofs.«01_k».proof.Proof.AttnReadIdeal
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body's run: from the seven operands' blocks, the result's block and the scratch at anything, it ends with the
    operands as they were, the result at `attnOut` of them and the scratch at anything. -/
theorem kernelRun (c : Dev nD) (i : grid0.Coords) (arg1 : Memref sig .tc .vmem S8192x128 .bf16) (harg1 : arg1.IsWhole) (arg2 : Memref sig .tc .vmem S256x128 .bf16) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S128x8192 .bf16) (harg5 : arg5.IsWhole) (arg6 : Memref sig .tc .vmem S8x128 .f32) (harg6 : arg6.IsWhole) (arg7 : Memref sig .tc .vmem S1x128 .f32) (harg7 : arg7.IsWhole) (arg8 : Memref sig .tc .vmem S8192x128 .bf16) (harg8 : arg8.IsWhole) (arg9 : Memref sig .tc .vmem S1x1024 .f32) (harg9 : arg9.IsWhole) (arg10 : Memref sig .tc .vmem S144x1024 .f32) (harg10 : arg10.IsWhole) (arg11 : Memref sig .tc .vmem S128x1024 .bf16) (harg11 : arg11.IsWhole) (arg12 : Memref sig .tc .vmem S1408x1024 .f32) (harg12 : arg12.IsWhole) (arg13 : Memref sig .tc .vmem S1408x1024 .f32) (harg13 : arg13.IsWhole) (arg14 : Memref sig .tc .vmem S8448x128 .bf16) (harg14 : arg14.IsWhole) (arg15 : Memref sig .tc .vmem S128x8448 .bf16) (harg15 : arg15.IsWhole) (arg16 : Memref sig .tc .vmem S144x1024 .f32) (harg16 : arg16.IsWhole) (x1 : Vec F S8192x128 .bf16) (x2 : Vec F S256x128 .bf16) (x3 : Vec F S8192x128 .bf16) (x4 : Vec F S128x256 .bf16) (x5 : Vec F S128x8192 .bf16) (x6 : Vec F S8x128 .f32) (x7 : Vec F S1x128 .f32) (E : Set ℕ) (Ψ : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (attnOut x1 x2 x3 x4 x5 x6 x7) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))) -∗ Ψ ⟨⟩))
      ⊢ wp frame (wpE (defs₀ (F := F)) Variants.none c none) E (cc0_diff_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Ψ := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, H9⟩, ⟨%f10, H10⟩, ⟨%f11, H11⟩, ⟨%f12, H12⟩, ⟨%f13, H13⟩, ⟨%f14, H14⟩, ⟨%f15, H15⟩, ⟨%f16, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_unfold [cc0_diff_attention]
  sl_exec
  have e1 : arg1.view.read (Elt F) (harg1.unread x1) = x1 := harg1.read_unread _
  have e7 : arg7.view.read (Elt F) (harg7.unread x7) = x7 := harg7.read_unread _
  have e14 : arg14.view.read (Elt F) (arg14.view.writes (Elt F) arg14.view.junk (kernelRun.sl.H14_2 c arg2 harg2 arg3 harg3 x2 x3)) = catK x2 x3 := by
    unfold kernelRun.sl.H14_2
    rw [pay24_id, pay22_id, View.readAt_full, View.readAt_full, harg3.read_unread, harg2.read_unread]
    exact read_catK _ _ _ _
  have e15 : arg15.view.read (Elt F) (arg15.view.writes (Elt F) arg15.view.junk (kernelRun.sl.H15_2 c arg4 harg4 arg5 harg5 x4 x5)) = catV x4 x5 := by
    unfold kernelRun.sl.H15_2
    rw [pay25_id, pay23_id, View.readAt_full, View.readAt_full, harg5.read_unread, harg4.read_unread]
    exact read_catV _ _ _ _
  have e11 : arg11.view.read (Elt F) (arg11.view.writes (Elt F) arg11.view.junk (kernelRun.sl.H11_1 c arg1 harg1 x1)) = qst x1 0 := by
    unfold kernelRun.sl.H11_1
    refine (View.read_writes_full _ _ _ _ _).trans ((pay30_eq _).trans (congrArg k0_pay11 ?_))
    exact (ld_qblk arg1.view _ 0 (by omega) rfl _).trans (congrArg (qblk · 0) e1)
  have e12 : arg12.view.read (Elt F) (arg12.view.writes (Elt F) arg12.view.junk (kernelRun.sl.H12_1 c arg1 harg1 arg2 harg2 arg3 harg3 arg11 arg14 x1 x2 x3))
      = scr (qst x1 0) (catK x2 x3) 0 := by
    unfold kernelRun.sl.H12_1 kernelRun.sl.v52 kernelRun.sl.v55
    refine (View.read_writes_full _ _ _ _ _).trans (pay31_congr ?_ ?_)
    · exact (View.readAt_full _ _ _).trans e11
    · exact (ld_kblk arg14.view _ 0 (by omega) rfl _).trans (congrArg (kblk · 0) e14)
  have er : kernelRun.sl.r c arg6 harg6 x6 = k0_pay27 x6 := by
    unfold kernelRun.sl.r
    exact congrArg k0_pay27 ((View.readAt_full _ _ _).trans (harg6.read_unread _))
  have er1 : kernelRun.sl.r_1 c arg6 harg6 x6 = k0_pay29 (k0_pay27 x6) k0_pay28 := by
    unfold kernelRun.sl.r_1; rw [er]
  have e65 : kernelRun.sl.v65 c arg1 harg1 arg2 harg2 arg3 harg3 arg4 harg4 arg5 harg5 arg11 arg12 arg14 arg15 arg16 x1 x2 x3 x4 x5 = accOf x1 (catK x2 x3) (catV x4 x5) 15 := by
    unfold kernelRun.sl.v65
    refine (View.readAt_full _ _ _).trans ?_
    rw [View.writes_append, read_pc16, e1, e14, e15, e11, e12, trips1]
    exact std_eq x1 (catK x2 x3) (catV x4 x5) _ 15 (by omega)
  sl_step
  iapply Hk
  isplitl [H1]
  · iexists _; isplitr; swap; (· iexact H1)
    ipureintro; exact harg1.read_unread _
  isplitl [H2]
  · iexists _; isplitr; swap; (· iexact H2)
    ipureintro; exact harg2.read_unread _
  isplitl [H3]
  · iexists _; isplitr; swap; (· iexact H3)
    ipureintro; exact harg3.read_unread _
  isplitl [H4]
  · iexists _; isplitr; swap; (· iexact H4)
    ipureintro; exact harg4.read_unread _
  isplitl [H5]
  · iexists _; isplitr; swap; (· iexact H5)
    ipureintro; exact harg5.read_unread _
  isplitl [H6]
  · iexists _; isplitr; swap; (· iexact H6)
    ipureintro; exact harg6.read_unread _
  isplitl [H7]
  · iexists _; isplitr; swap; (· iexact H7)
    ipureintro; exact harg7.read_unread _
  isplitl [H8]
  · iexists _; isplitr; swap; (· iexact H8)
    ipureintro
    rw [e65, er, er1, e1, e7, e14, e15, e11, e12, trips1]
    rw [View.readAt_full, e7]
    exact read_out x1 (catK x2 x3) (catV x4 x5) x6 x7 _ arg8.view f8 _ rfl
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  iexists _; iexact H16

end Cert.Proof.KernelIdeal

end
-- ==== Proof.AttnFrameIdeal.lean ====
module

public import proofs.«01_k».proof.Proof.AttnBodyIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window BodyObligation cellOf ΦA)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-- What the body leaves in the result's staging buffer at point `t`: the attention of the point's blocks. -/
def outsAt (c : Dev nD) (t : Fin cfg0.N) : Vec F S8192x128 .bf16 :=
  attnOut (iblk m c 0 t) (iblk m c 1 t) (iblk m c 2 t) (iblk m c 3 t) (iblk m c 4 t) (iblk m c 5 t) (iblk m c 6 t)

/-- The proof data: the arrays as the region finds them, each operand's buffer at its block after the body, the result's
    at `outsAt`; the scratch at anything between the points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- A scratch buffer held whole is held by the elements of the view of the whole of it. -/
theorem own_scratch (c : Dev nD) (b : Ref sig .tc) (f : Buf (Elt F) ((c : Thread nD τ).loc b)) :
    (((c : Thread nD τ).loc b) ↦{fullShare} f : sProp 𝕄)
      ⊣⊢ ((Memref.whole b).view.loc (c : Thread nD τ) ↦[(Memref.whole b).view.set]{fullShare} f) := by
  rw [show (Memref.whole b).view.set = Finset.univ from View.set_whole _]

set_option maxHeartbeats 1000000 in
/-- The body's obligation at every point, from `kernelRun`. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7]
  rw [show (dats m 0 c).Φ t.castSucc = Pipeline.ΦA spec0 c from rfl]
  unfold outsAt Pipeline.ΦA
  rw [scopedRest0_eq]
  iintro ⟨⟨⟨⟨%g0, S0⟩, ⟨%g1, S1⟩, ⟨%g2, S2⟩, ⟨%g3, S3⟩, ⟨%g4, S4⟩, ⟨%g5, S5⟩, ⟨%g6, S6⟩, ⟨%g7, S7⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexists g0; iapply (own_scratch c _ g0).1 $$ S0
  isplitl [S1]; · iexists g1; iapply (own_scratch c _ g1).1 $$ S1
  isplitl [S2]; · iexists g2; iapply (own_scratch c _ g2).1 $$ S2
  isplitl [S3]; · iexists g3; iapply (own_scratch c _ g3).1 $$ S3
  isplitl [S4]; · iexists g4; iapply (own_scratch c _ g4).1 $$ S4
  isplitl [S5]; · iexists g5; iapply (own_scratch c _ g5).1 $$ S5
  isplitl [S6]; · iexists g6; iapply (own_scratch c _ g6).1 $$ S6
  isplitl [S7]; · iexists g7; iapply (own_scratch c _ g7).1 $$ S7
  iintro ⟨H0, H1, H2, H3, H4, H5, H6, H7, ⟨%h0, S0⟩, ⟨%h1, S1⟩, ⟨%h2, S2⟩, ⟨%h3, S3⟩, ⟨%h4, S4⟩, ⟨%h5, S5⟩, ⟨%h6, S6⟩, ⟨%h7, S7⟩⟩
  isplitl [S0 S1 S2 S3 S4 S5 S6 S7 HR]
  · isplitr [HR]
    · isplitl [S0]; · iexists h0; iapply (own_scratch c _ h0).2 $$ S0
      isplitl [S1]; · iexists h1; iapply (own_scratch c _ h1).2 $$ S1
      isplitl [S2]; · iexists h2; iapply (own_scratch c _ h2).2 $$ S2
      isplitl [S3]; · iexists h3; iapply (own_scratch c _ h3).2 $$ S3
      isplitl [S4]; · iexists h4; iapply (own_scratch c _ h4).2 $$ S4
      isplitl [S5]; · iexists h5; iapply (own_scratch c _ h5).2 $$ S5
      isplitl [S6]; · iexists h6; iapply (own_scratch c _ h6).2 $$ S6
      iexists h7; iapply (own_scratch c _ h7).2 $$ S7
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- From any memory with zero counters every weakly fair execution terminates, and every final state has each array at
    what the proof data computes and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the ten argument arrays end as launched and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_with_sems (frame_of m ρ (dats m) fun _ _ => rfl) (run_main (F := F) m ρ)

end Cert.Proof.KernelIdeal

end
-- ==== Proof.AttnLambda.lean ====
module

public import proofs.«01_k».proof.Proof.AttnReference
public import proofs.«01_k».proof.Proof.AttnFrameIdeal
public import Idealize.ShloMosaic.Lib.Routing.OpsOne

@[expose] public section

set_option maxRecDepth 16384

noncomputable section

namespace Cert.Proof.KernelIdeal

open Cert.KernelIdeal Cert.KernelIdeal.Gen Cert.Proof.Softmax
open Idealize.ShloMosaic Idealize.ShloMosaic.TcCoe Idealize.ShloMosaic.Tactic Idealize.SL.Sem

variable {F : FTy → Type} [FloatOps F]

/-! ## The packed vectors of lambda -/

/-- Entry `k` of the written row lands at the row the first index word names and column `k`. -/
theorem lands_row (idx : IVec S2 32) (ρ : Fin 8) (h0 : (idx (ix1 (0 : Fin 2))).toInt = (ρ.val : Int)) (h1 : (idx (ix1 (1 : Fin 2))).toInt = 0)
    (k : Fin 64) (r : Fin 8) (c : Fin 128) :
    scatter_S8x128_S2_S64_0_0_01_0.resultIdx? (ix1 k) idx = some (ix2 r c) ↔ r = ρ ∧ c.val = k.val := by
  have hw0 : scatter_S8x128_S2_S64_0_0_01_0.window (ix1 k) 0 = 0 := by
    unfold ScatterDims.window
    rw [dif_neg (by decide)]
  have hw1 : scatter_S8x128_S2_S64_0_0_01_0.window (ix1 k) 1 = k.val := by
    unfold ScatterDims.window
    rw [dif_pos (by decide)]
    exact congrArg (fun t => ((ix1 k : S64.Idx) t).val) (Subsingleton.elim (α := Fin 1) _ 0)
  have hs0 := (Routing.start_pair (R := 8) (C := 128) scatter_S8x128_S2_S64_0_0_01_0 rfl rfl idx (ix1 k) 0).trans h0
  have hs1 := (Routing.start_pair (R := 8) (C := 128) scatter_S8x128_S2_S64_0_0_01_0 rfl rfl idx (ix1 k) 1).trans h1
  refine (Routing.resultIdx?_ix2 (R := 8) (C := 128) scatter_S8x128_S2_S64_0_0_01_0 (ix1 k) idx r c).trans ?_
  rw [hw0, hw1, hs0, hs1, Fin.ext_iff]
  omega

/-- A row of 64 entries written over the first 64 columns of row `ρ`. -/
theorem set_row {α : Type} (x : S8x128.Idx → α) (idx : IVec S2 32) (u : S64.Idx → α) (ρ : Fin 8) (h0 : (idx (ix1 (0 : Fin 2))).toInt = (ρ.val : Int))
    (h1 : (idx (ix1 (1 : Fin 2))).toInt = 0) (r : Fin 8) (c : Fin 128) :
    Host.scatter scatter_S8x128_S2_S64_0_0_01_0 (fun _ b => b) x idx u (ix2 r c) = if h : r = ρ ∧ c.val < 64 then u (ix1 ⟨c.val, h.2⟩) else x (ix2 r c) := by
  have lands : ∀ k : S64.Idx, scatter_S8x128_S2_S64_0_0_01_0.resultIdx? k idx = some (ix2 r c) → r = ρ ∧ c.val = (k 0).val := fun k hk =>
    (lands_row idx ρ h0 h1 (k 0) r c).1 ((congrArg (fun t => scatter_S8x128_S2_S64_0_0_01_0.resultIdx? t idx) (eq_ix1 k).symm).trans hk)
  by_cases h : r = ρ ∧ c.val < 64
  · rw [dif_pos h]
    refine Routing.scatter_set_hit _ x idx u _ _ (fun k hk => ?_) (ix1 ⟨c.val, h.2⟩) ((lands_row idx ρ h0 h1 _ r c).2 ⟨h.1, rfl⟩)
    rw [eq_ix1 k]
    exact congrArg (fun e => u (ix1 e)) (Fin.ext (lands k hk).2.symm)
  · rw [dif_neg h]
    refine Routing.scatter_set_miss _ x idx u _ fun k hk => h ⟨(lands k hk).1, ?_⟩
    have hk' : (k 0).val < 64 := (k 0).isLt
    have := (lands k hk).2
    omega

/-- The pair of index words of row `w`. -/
abbrev pair0 (w : BitVec 32) : IVec S2 32 :=
  concatenate S2 0 [⟨S1, broadcastInDim S1 ![] bcast_S_S1 (constantI S_ 32 w)⟩, ⟨S1, broadcastInDim S1 ![] bcast_S_S1 (constantI S_ 32 0#32)⟩] concatenates_S1_S1_S2_d0

theorem pair0_0 (w : BitVec 32) : pair0 w (ix1 (0 : Fin 2)) = w := rfl
theorem pair0_1 (w : BitVec 32) : pair0 w (ix1 (1 : Fin 2)) = 0#32 := rfl

/-- The four vectors of lambda as the kernel's caller packs them: rows 0 to 3 of an array of zeros, columns 0 to 63. -/
abbrev packed (a b c d : FVec F S1x64 .f32) : FVec F S8x128 .f32 :=
  Host.scatter scatter_S8x128_S2_S64_0_0_01_0 (fun _ b => b)
    (Host.scatter scatter_S8x128_S2_S64_0_0_01_0 (fun _ b => b)
      (Host.scatter scatter_S8x128_S2_S64_0_0_01_0 (fun _ b => b)
        (Host.scatter scatter_S8x128_S2_S64_0_0_01_0 (fun _ b => b)
          (broadcastInDim S8x128 ![] bcast_S_S8x128 (constant S_ .f32 0x00000000#32))
          (pair0 0#32) (shapeCast S64 a shapeCasts_S1x64_S64))
        (pair0 1#32) (shapeCast S64 b shapeCasts_S1x64_S64))
      (pair0 2#32) (shapeCast S64 c shapeCasts_S1x64_S64))
    (pair0 3#32) (shapeCast S64 d shapeCasts_S1x64_S64)

variable (m : (ℓ : Loc nD τ sig) → Buf (Elt F) ℓ)

/-- The array of the lambda vectors at the kernel's launch is the four arguments packed. -/
theorem V_v20 (c : Dev nD) : (V m c main_v20 : FVec F S8x128 .f32) =
    packed (m ((c : Thread nD τ).loc main_arg5) : FVec F S1x64 .f32) (m ((c : Thread nD τ).loc main_arg6) : FVec F S1x64 .f32)
      (m ((c : Thread nD τ).loc main_arg7) : FVec F S1x64 .f32) (m ((c : Thread nD τ).loc main_arg8) : FVec F S1x64 .f32) := by
  show StableHlo.after hostOps0 _ _ = _
  after_results_simp <;> rfl

/-- The gain at the kernel's launch. -/
theorem V_v22 (c : Dev nD) : (V m c main_v22 : FVec F S1x128 .f32) =
    shapeCast S1x128 (shapeCast S128 (m ((c : Thread nD τ).loc main_arg9) : FVec F S1x128 .f32) shapeCasts_S1x128_S128) shapeCasts_S128_S1x128 := by
  show StableHlo.after hostOps0 _ _ = _
  after_results_simp <;> rfl

/-! ## Lambda at exact values -/

/-- A one-row array cast to a vector, read at an entry. -/
theorem cast64 (x : FVec Ideal S1x64 .f32) (k : Fin 64) : shapeCast S64 x shapeCasts_S1x64_S64 (ix1 k) = x (ix2 0 k) := by
  pointwise []

/-- A gain taken to a vector and back is itself. -/
theorem cast128 (x : FVec Ideal S1x128 .f32) (e : Fin 128) :
    shapeCast S1x128 (shapeCast S128 x shapeCasts_S1x128_S128) shapeCasts_S128_S1x128 (ix2 0 e) = x (ix2 0 e) := by
  pointwise []

/-- Vector `x` with zeros behind it. -/
def tail0 (x : FVec Ideal S1x64 .f32) (k : Fin 128) : EReal := if h : k.val < 64 then x (ix2 0 ⟨k.val, h⟩) else 0

theorem zeros_at (y : S8x128.Idx) : broadcastInDim S8x128 ![] bcast_S_S8x128 (constant (F := Ideal) S_ .f32 0x00000000#32) y = (0 : EReal) := by
  pointwise []

/-- Writing row `ρ`, read in another row. -/
theorem set_other {x : S8x128.Idx → EReal} {w : BitVec 32} (u : S64.Idx → EReal) (ρ r : Fin 8) (hw : w.toInt = (ρ.val : Int)) (hr : r ≠ ρ) (k : Fin 128) :
    Host.scatter scatter_S8x128_S2_S64_0_0_01_0 (fun _ b => b) x (pair0 w) u (ix2 r k) = x (ix2 r k) :=
  (set_row x (pair0 w) u ρ hw (by rfl) r k).trans (dif_neg fun h => hr h.1)

/-- Writing row `ρ` of an array that holds zeros there, read in that row. -/
theorem set_same {x : S8x128.Idx → EReal} {w : BitVec 32} (u : FVec Ideal S1x64 .f32) (ρ : Fin 8) (hw : w.toInt = (ρ.val : Int)) (k : Fin 128) (hx : x (ix2 ρ k) = 0) :
    Host.scatter scatter_S8x128_S2_S64_0_0_01_0 (fun _ b => b) x (pair0 w) (shapeCast S64 u shapeCasts_S1x64_S64) (ix2 ρ k) = tail0 u k := by
  refine (set_row x (pair0 w) _ ρ hw (by rfl) ρ k).trans ?_
  unfold tail0
  by_cases h : k.val < 64
  · rw [dif_pos h, dif_pos ⟨rfl, h⟩]
    exact cast64 u _
  · rw [dif_neg h, dif_neg (fun h' => h h'.2)]
    exact hx

theorem packed_0 (a b c d : FVec Ideal S1x64 .f32) (k : Fin 128) : packed a b c d (ix2 0 k) = tail0 a k :=
  (set_other _ 3 0 (by decide) (by decide) k).trans <| (set_other _ 2 0 (by decide) (by decide) k).trans <|
    (set_other _ 1 0 (by decide) (by decide) k).trans <| set_same a 0 (by decide) k (zeros_at _)

theorem packed_1 (a b c d : FVec Ideal S1x64 .f32) (k : Fin 128) : packed a b c d (ix2 1 k) = tail0 b k :=
  (set_other _ 3 1 (by decide) (by decide) k).trans <| (set_other _ 2 1 (by decide) (by decide) k).trans <|
    set_same b 1 (by decide) k ((set_other _ 0 1 (by decide) (by decide) k).trans (zeros_at _))

theorem packed_2 (a b c d : FVec Ideal S1x64 .f32) (k : Fin 128) : packed a b c d (ix2 2 k) = tail0 c k :=
  (set_other _ 3 2 (by decide) (by decide) k).trans <|
    set_same c 2 (by decide) k ((set_other _ 1 2 (by decide) (by decide) k).trans ((set_other _ 0 2 (by decide) (by decide) k).trans (zeros_at _)))

theorem packed_3 (a b c d : FVec Ideal S1x64 .f32) (k : Fin 128) : packed a b c d (ix2 3 k) = tail0 d k :=
  set_same d 3 (by decide) k ((set_other _ 2 3 (by decide) (by decide) k).trans <| (set_other _ 1 3 (by decide) (by decide) k).trans <|
    (set_other _ 0 3 (by decide) (by decide) k).trans (zeros_at _))

/-- The inner product of two vectors with zeros behind them is the vectors'. -/
theorem dot_tail (a b : FVec Ideal S1x64 .f32) : ∑ k : Fin 128, tail0 a k * tail0 b k = ∑ k : Fin 64, (a (ix2 0 k) : EReal) * b (ix2 0 k) := by
  rw [sum_halves]
  have h0 : ∀ d : Fin 64, tail0 a (hd 0 d) * tail0 b (hd 0 d) = (a (ix2 0 d) : EReal) * b (ix2 0 d) := fun d => by
    have : (hd 0 d).val < 64 := by show 64 * 0 + d.val < 64; omega
    unfold tail0
    rw [dif_pos this, dif_pos this]
    have e : (⟨(hd 0 d).val, this⟩ : Fin 64) = d := Fin.ext (by show 64 * 0 + d.val = d.val; omega)
    rw [e]
  have h1 : ∀ d : Fin 64, tail0 a (hd 1 d) * tail0 b (hd 1 d) = 0 := fun d => by
    have : ¬ (hd 1 d).val < 64 := by show ¬ 64 * 1 + d.val < 64; omega
    unfold tail0
    rw [dif_neg this, dif_neg this, mul_zero]
  simp only [h0, h1, Finset.sum_const_zero, add_zero]

/-- Lambda: `exp(q1 · k1) - exp(q2 · k2) + 0.2`. -/
def lamV (a b c d : FVec Ideal S1x64 .f32) : EReal :=
  Ideal.exp (∑ k : Fin 64, (a (ix2 0 k) : EReal) * b (ix2 0 k)) - Ideal.exp (∑ k : Fin 64, (c (ix2 0 k) : EReal) * d (ix2 0 k)) + Ideal.ofBits .f32 0x3E4CCCCD#32

/-- The kernel's lambda, of any array. -/
theorem pay29_at (L : FVec Ideal S8x128 .f32) : k0_pay29 (F := Ideal) (k0_pay27 L) k0_pay28 (ix2 0 0) =
    Ideal.exp (∑ k : Fin 128, (L (ix2 0 k) : EReal) * L (ix2 1 k)) - Ideal.exp (∑ k : Fin 128, (L (ix2 2 k) : EReal) * L (ix2 3 k)) + Ideal.ofBits .f32 0x3E4CCCCD#32 := by
  pointwise [k0_pay29, k0_pay28, k0_pay27]

theorem lam_ker (a b c d : FVec Ideal S1x64 .f32) : k0_pay29 (F := Ideal) (k0_pay27 (packed a b c d)) k0_pay28 (ix2 0 0) = lamV a b c d := by
  refine (pay29_at _).trans ?_
  have e : ∀ {f g : Fin 128 → EReal} {u v : Fin 128 → EReal}, (∀ k, f k = u k) → (∀ k, g k = v k) → ∑ k, f k * g k = ∑ k, u k * v k := fun hf hg =>
    Finset.sum_congr rfl fun k _ => by rw [hf k, hg k]
  rw [e (packed_0 a b c d) (packed_1 a b c d), e (packed_2 a b c d) (packed_3 a b c d), dot_tail, dot_tail]
  rfl

/-- The reference's lambda. -/
theorem lam_ref (a b c d : FVec Ideal S1x64 .f32) : Cert.ReferenceIdeal.Read.val_main_v11 (F := Ideal) a b c d ix0 = lamV a b c d := by
  pointwise [lamV, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_cst, Cert.ReferenceIdeal.Read.val_main_cst_0, Cert.ReferenceIdeal.Read.val_main_cst_1]

/-- A product of two real vectors is real. -/
theorem dot_real (a b : Fin 64 → EReal) (ha : ∀ k, ∃ r : ℝ, a k = r) (hb : ∀ k, ∃ r : ℝ, b k = r) : ∃ r : ℝ, ∑ k, a k * b k = r := by
  choose f hf using ha
  choose g hg using hb
  exact ⟨∑ k, f k * g k, by simp only [hf, hg, coe_sum, EReal.coe_mul]⟩

/-- Lambda of real vectors is real. -/
theorem lam_real (a b c d : FVec Ideal S1x64 .f32) (ha : ∀ y, ∃ r : ℝ, (a y : EReal) = r) (hb : ∀ y, ∃ r : ℝ, (b y : EReal) = r)
    (hc : ∀ y, ∃ r : ℝ, (c y : EReal) = r) (hd : ∀ y, ∃ r : ℝ, (d y : EReal) = r) : ∃ r : ℝ, lamV a b c d = r := by
  obtain ⟨p, hp⟩ := dot_real (fun k => a (ix2 0 k)) (fun k => b (ix2 0 k)) (fun k => ha _) (fun k => hb _)
  obtain ⟨q, hq⟩ := dot_real (fun k => c (ix2 0 k)) (fun k => d (ix2 0 k)) (fun k => hc _) (fun k => hd _)
  have hw : ∃ r : ℝ, Ideal.ofBits .f32 0x3E4CCCCD#32 = (r : EReal) := ⟨_, by simp [Ideal.ofBits, Ideal.ieee, -EReal.coe_mul]; rfl⟩
  obtain ⟨w, hw⟩ := hw
  refine ⟨Real.exp p - Real.exp q + w, ?_⟩
  unfold lamV
  rw [hp, hq, hw]
  rfl

end Cert.Proof.KernelIdeal

end
-- ==== Proof.AttnFinite.lean ====
/- What the precondition of the attention's value claim says of single elements. -/
module

public import proofs.«01_k».proof.Pre_finite_values
public import Idealize.ShloMosaic.Lib.Pointwise
public import Idealize.ShloMosaic.Lib.ReduceAll

@[expose] public section

set_option maxRecDepth 16384

noncomputable section

namespace Cert.Proof.Finite

open Cert.Pre_finite_values Idealize.ShloMosaic Idealize.ShloMosaic.Tactic

/-- An extended real whose absolute value is below `⊤` is a real. -/
theorem real_of_abs (x : EReal) (h : max x (-x) < ⊤) : ∃ r : ℝ, x = r := by
  induction x with
  | bot => simp at h
  | coe r => exact ⟨r, rfl⟩
  | top => simp at h

/-- The comparison `|x| < +inf` holding of an element makes the element a real. -/
theorem real_of_olt {s : Shape} (h : S_.BroadcastsInDim s (![] : Fin 0 → Fin s.rank)) (x : FVec Ideal s .f32) (i : s.Idx)
    (e : cmpf .olt (Host.absf x) (broadcastInDim s ![] h (constant S_ .f32 0x7F800000#32)) i = 1#1) : ∃ r : ℝ, (x i : EReal) = r := by
  have e' : Ideal.cmp .olt (max (x i : EReal) (-(x i : EReal))) (Ideal.ofBits .f32 0x7F800000#32) = 1#1 := e
  have htop : Ideal.ofBits .f32 0x7F800000#32 = ⊤ := by simp [Ideal.ofBits, Ideal.ieee]
  rw [htop] at e'
  exact real_of_abs _ ((Ideal.cmp_olt_eq_one _ _).1 e')

variable [Facts]

/-- Where the precondition holds, every element of the values and of the vectors of lambda is a real. -/
theorem reals (a0 : FVec Ideal S8192x1024 .bf16) (a1 : FVec Ideal S256x1024 .bf16) (a2 : FVec Ideal S8192x1024 .bf16) (a3 : FVec Ideal S1024x256 .bf16)
    (a4 : FVec Ideal S1024x8192 .bf16) (a5 a6 a7 a8 : FVec Ideal S1x64 .f32) (a9 : FVec Ideal S1x128 .f32) (i : S_.Idx)
    (h : fn (F := Ideal) a0 a1 a2 a3 a4 a5 a6 a7 a8 a9 i = 1#1) :
    (∀ y, ∃ r : ℝ, (a3 y : EReal) = r) ∧ (∀ y, ∃ r : ℝ, (a4 y : EReal) = r) ∧ (∀ y, ∃ r : ℝ, (a5 y : EReal) = r)
      ∧ (∀ y, ∃ r : ℝ, (a6 y : EReal) = r) ∧ (∀ y, ∃ r : ℝ, (a7 y : EReal) = r) ∧ (∀ y, ∃ r : ℝ, (a8 y : EReal) = r) := by
  unfold fn fn_part1 at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h3, h4⟩ := IntOp.andi_eq_one.1 h
  haveI : Subsingleton S_.Idx := ⟨fun p q => funext fun t => t.elim0⟩
  exact ⟨fun y => real_of_olt _ (extf .f32 a3 _) y (Host.reduce_andi_all _ _ _ _ i h3 y), fun y => real_of_olt _ (extf .f32 a4 _) y (Host.reduce_andi_all _ _ _ _ i h4 y),
    fun y => real_of_olt _ a5 y (Host.reduce_andi_all _ _ _ _ i h5 y), fun y => real_of_olt _ a6 y (Host.reduce_andi_all _ _ _ _ i h6 y),
    fun y => real_of_olt _ a7 y (Host.reduce_andi_all _ _ _ _ i h7 y), fun y => real_of_olt _ a8 y (Host.reduce_andi_all _ _ _ _ i h8 y)⟩

end Cert.Proof.Finite

end
-- ==== Proof.AttnRun.lean ====
/- The attention at the ideal values: its result array ends at the reference's term of the arguments. -/
module

public import proofs.«01_k».proof.Defs
public import proofs.«01_k».proof.Proof.AttnLambda
public import proofs.«01_k».proof.Proof.AttnFinite
public import proofs.«01_k».proof.Proof.Gen.ReferenceIdeal.Run
public import Idealize.ShloMosaic.Lib.Claim

@[expose] public section

set_option maxRecDepth 16384

noncomputable section

namespace Cert.Proof.KernelIdeal

open Cert.KernelIdeal Cert.KernelIdeal.Gen Cert.Proof.Softmax
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The head of a grid point. -/
def head (t : Fin cfg0.N) : Fin 8 := ⟨t.val, t.isLt⟩

/-- The index maps at every point: the head's columns of the queries, keys and result, the head's rows of the values. -/
theorem idx0 : ∀ t : Fin cfg0.N, win0_0.index t = ![0, t.val] ∧ win0_1.index t = ![0, t.val] ∧ win0_2.index t = ![0, t.val]
    ∧ win0_3.index t = ![t.val, 0] ∧ win0_4.index t = ![t.val, 0] ∧ win0_5.index t = ![0, 0] ∧ win0_6.index t = ![0, 0] ∧ win0_7.index t = ![0, t.val] :=
  (by decide +kernel : ∀ t : Fin grid0.N, _)

/-- The columns of a head, by their number. -/
theorem hcol_val (t : Fin cfg0.N) (d : Fin 128) : t.val * 128 + d.val = (hcol (head t) d).val := by
  show t.val * 128 + d.val = 128 * t.val + d.val
  omega

theorem blk0 (c : Dev nD) (t : Fin cfg0.N) : iblk m c 0 t = colsOf (V m c main_arg0 : FVec Ideal S8192x1024 .bf16) (head t) := by
  funext y
  unfold colsOf
  blk_point [iblk, idx0 t]
  exact hcol_val t (y 1)

theorem blk1 (c : Dev nD) (t : Fin cfg0.N) : iblk m c 1 t = colsOf (V m c main_arg1 : FVec Ideal S256x1024 .bf16) (head t) := by
  funext y
  unfold colsOf
  blk_point [iblk, idx0 t]
  exact hcol_val t (y 1)

theorem blk2 (c : Dev nD) (t : Fin cfg0.N) : iblk m c 2 t = colsOf (V m c main_arg2 : FVec Ideal S8192x1024 .bf16) (head t) := by
  funext y
  unfold colsOf
  blk_point [iblk, idx0 t]
  exact hcol_val t (y 1)

theorem blk3 (c : Dev nD) (t : Fin cfg0.N) : iblk m c 3 t = rowsAt (V m c main_arg3 : FVec Ideal S1024x256 .bf16) (head t) := by
  funext y
  unfold rowsAt
  blk_point [iblk, idx0 t]
  exact hcol_val t (y 0)

theorem blk4 (c : Dev nD) (t : Fin cfg0.N) : iblk m c 4 t = rowsAt (V m c main_arg4 : FVec Ideal S1024x8192 .bf16) (head t) := by
  funext y
  unfold rowsAt
  blk_point [iblk, idx0 t]
  exact hcol_val t (y 0)

theorem blk5 (c : Dev nD) (t : Fin cfg0.N) : iblk m c 5 t = (V m c main_v20 : FVec Ideal S8x128 .f32) := by
  funext y
  blk_point [iblk, idx0 t]

theorem blk6 (c : Dev nD) (t : Fin cfg0.N) : iblk m c 6 t = (V m c main_v22 : FVec Ideal S1x128 .f32) := by
  funext y
  blk_point [iblk, idx0 t]

/-! ## One head -/

theorem word128 : Ideal.ofBits .f32 0x43000000#32 = ((128 : ℝ) : EReal) := by
  simp [Ideal.ofBits, Ideal.ieee, -EReal.coe_mul]; norm_num

theorem word_eps : ∃ ε : ℝ, Ideal.ofBits .f32 0x358637BD#32 = (ε : EReal) := ⟨_, by simp [Ideal.ofBits, Ideal.ieee, -EReal.coe_mul]; rfl⟩

/-- The values of both ranges are real where each range's are. -/
theorem catV_real (a : FVec Ideal S128x256 .bf16) (b : FVec Ideal S128x8192 .bf16) (ha : ∀ y, ∃ r : ℝ, (a y : EReal) = r) (hb : ∀ y, ∃ r : ℝ, (b y : EReal) = r) :
    ∃ ν : Fin 128 → Fin 8448 → ℝ, ∀ e k, (catV (F := Ideal) a b (ix2 e k) : EReal) = (ν e k : EReal) := by
  have h : ∀ e k, ∃ r : ℝ, (catV (F := Ideal) a b (ix2 e k) : EReal) = r := fun e k => by
    unfold catV
    by_cases hk : (ix2 e k (1 : Fin 2)).val < 256
    · obtain ⟨r, hr⟩ := ha (fun q => match q with
        | ⟨0, _⟩ => e
        | ⟨1, _⟩ => ⟨k.val, hk⟩)
      exact ⟨r, (dif_pos hk).trans hr⟩
    · obtain ⟨r, hr⟩ := hb (fun q => match q with
        | ⟨0, _⟩ => e
        | ⟨1, _⟩ => ⟨k.val - 256, by have h1 : k.val < 8448 := k.isLt; show k.val - 256 < 8192; omega⟩)
      exact ⟨r, (dif_neg hk).trans hr⟩
  choose ν hν using h
  exact ⟨ν, hν⟩

section
variable (x0 : FVec Ideal S8192x1024 .bf16) (x1 : FVec Ideal S256x1024 .bf16) (x2 : FVec Ideal S8192x1024 .bf16) (x3 : FVec Ideal S1024x256 .bf16)
  (x4 : FVec Ideal S1024x8192 .bf16) (x5 x6 x7 x8 : FVec Ideal S1x64 .f32) (x9 : FVec Ideal S1x128 .f32)

/-- The reference's attention of ten arguments. -/
def REF : FVec Ideal S8192x1024 .bf16 := Cert.ReferenceIdeal.Read.val_main_v63 (F := Ideal) x0 x1 x2 x3 x4 x5 x6 x7 x8 x9

/-- One head of the kernel's attention is that head of the reference's, where the values and the vectors of lambda are real. -/
theorem head_eq (h : Fin 8) (h3 : ∀ y, ∃ r : ℝ, (x3 y : EReal) = r) (h4 : ∀ y, ∃ r : ℝ, (x4 y : EReal) = r) (h5 : ∀ y, ∃ r : ℝ, (x5 y : EReal) = r)
    (h6 : ∀ y, ∃ r : ℝ, (x6 y : EReal) = r) (h7 : ∀ y, ∃ r : ℝ, (x7 y : EReal) = r) (h8 : ∀ y, ∃ r : ℝ, (x8 y : EReal) = r) (i : Fin 8192) (e : Fin 128) :
    (attnOut (F := Ideal) (colsOf x0 h) (colsOf x1 h) (colsOf x2 h) (rowsAt x3 h) (rowsAt x4 h) (packed x5 x6 x7 x8)
        (shapeCast S1x128 (shapeCast S128 x9 shapeCasts_S1x128_S128) shapeCasts_S128_S1x128) (ix2 i e) : EReal)
      = REF x0 x1 x2 x3 x4 x5 x6 x7 x8 x9 (ix2 i (hcol h e)) := by
  obtain ⟨lam, hl⟩ := lam_real x5 x6 x7 x8 h5 h6 h7 h8
  obtain ⟨ν, hν⟩ := catV_real (rowsAt x3 h) (rowsAt x4 h) (fun y => h3 _) (fun y => h4 _)
  obtain ⟨ε, hε⟩ := word_eps
  have hy : i.val < 8192 := i.isLt
  have hq : qi (i.val / 512) ⟨i.val % 512, Nat.mod_lt _ (by decide)⟩ = i := Fin.ext (by
    show (512 * (i.val / 512) + i.val % 512) % 8192 = i.val
    omega)
  have hb : inBlk (ix2 i e) = ix2 (⟨i.val % 512, Nat.mod_lt _ (by decide)⟩ : Fin 512) e := funext fun a => match a with
    | ⟨0, _⟩ => rfl
    | ⟨1, _⟩ => rfl
  unfold REF
  refine Eq.trans ?_ (ref_v63 x0 x1 x2 x5 x6 x7 x8 x3 x4 x9 h e i lam ((lam_ref x5 x6 x7 x8).trans hl) ν hν).symm
  generalize hG : shapeCast S1x128 (shapeCast S128 x9 shapeCasts_S1x128_S128) shapeCasts_S128_S1x128 = G
  have hg : (G (ix2 0 e) : EReal) = x9 (ix2 0 e) := by rw [← hG]; exact cast128 x9 e
  unfold attnOut
  rw [hb]
  refine (rows_at _ _ _ _ G _ _ _ ν hν lam ((lam_ker x5 x6 x7 x8).trans hl)).trans ?_
  rw [hg, word128, hε]
  refine congrArg (fun z : EReal => z * x9 (ix2 0 e) * Ideal.ofBits .f32 0x3F4CCCCD#32) ?_
  have hq' : qi ((ix2 i e (0 : Fin 2)).val / 512) ⟨i.val % 512, Nat.mod_lt _ (by decide)⟩ = i := hq
  rw [hq']
  exact nrm_ker_ref _ _ ν lam (by norm_num) (fun k => wg_nonneg _ _ _ _ _) (fun k => wg_nonneg _ _ _ _ _) _

/-- The same of any seven blocks that are the head's parts of the arguments. -/
theorem head_of (h : Fin 8) (x0 : FVec Ideal S8192x1024 .bf16) (x1 : FVec Ideal S256x1024 .bf16) (x2 : FVec Ideal S8192x1024 .bf16) (x3 : FVec Ideal S1024x256 .bf16)
    (x4 : FVec Ideal S1024x8192 .bf16) (x5 x6 x7 x8 : FVec Ideal S1x64 .f32) (x9 : FVec Ideal S1x128 .f32)
    (h3 : ∀ y, ∃ r : ℝ, (x3 y : EReal) = r) (h4 : ∀ y, ∃ r : ℝ, (x4 y : EReal) = r) (h5 : ∀ y, ∃ r : ℝ, (x5 y : EReal) = r)
    (h6 : ∀ y, ∃ r : ℝ, (x6 y : EReal) = r) (h7 : ∀ y, ∃ r : ℝ, (x7 y : EReal) = r) (h8 : ∀ y, ∃ r : ℝ, (x8 y : EReal) = r)
    (b0 : FVec Ideal S8192x128 .bf16) (b1 : FVec Ideal S256x128 .bf16) (b2 : FVec Ideal S8192x128 .bf16) (b3 : FVec Ideal S128x256 .bf16) (b4 : FVec Ideal S128x8192 .bf16)
    (b5 : FVec Ideal S8x128 .f32) (b6 : FVec Ideal S1x128 .f32) (e0 : b0 = colsOf x0 h) (e1 : b1 = colsOf x1 h) (e2 : b2 = colsOf x2 h) (e3 : b3 = rowsAt x3 h)
    (e4 : b4 = rowsAt x4 h) (e5 : b5 = packed x5 x6 x7 x8) (e6 : b6 = shapeCast S1x128 (shapeCast S128 x9 shapeCasts_S1x128_S128) shapeCasts_S128_S1x128) (y : S8192x128.Idx) :
    attnOut (F := Ideal) b0 b1 b2 b3 b4 b5 b6 y = REF x0 x1 x2 x3 x4 x5 x6 x7 x8 x9 (ix2 (y 0) (hcol h (y 1))) := by
  subst e0 e1 e2 e3 e4 e5 e6
  refine Eq.trans (congrArg _ (eq_ix2 y)) ?_
  exact head_eq x0 x1 x2 x3 x4 x5 x6 x7 x8 x9 h h3 h4 h5 h6 h7 h8 (y 0) (y 1)

end

/-! ## The result array -/

/-- The reference's attention of the launch contents of the arguments. -/
def REFm (c : Dev nD) : FVec Ideal S8192x1024 .bf16 :=
  REF (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- The precondition's side conditions. -/
theorem factsPre : Cert.Pre_finite_values.Facts where
  bitsLt_bf16_f32 := by decide
  bcast_S_S1024x256 := by decide
  reducesTo_S1024x256_S_d0_1 := by decide
  h_S_ := by decide
  bcast_S_S1024x8192 := by decide
  reducesTo_S1024x8192_S_d0_1 := by decide
  bcast_S_S1x64 := by decide
  reducesTo_S1x64_S_d0_1 := by decide

/-- The body's block at a point is the head's columns of the reference. -/
theorem outsAt_eq (hpre : Cert.Pre_KernelIdeal_finite_values (hPre_finite_values := factsPre) m) (c : Dev nD) (t : Fin cfg0.N) (y : S8192x128.Idx) :
    outsAt m c t y = REFm m c (ix2 (y 0) (hcol (head t) (y 1))) := by
  letI := factsPre
  obtain ⟨h3, h4, h5, h6, h7, h8⟩ := Cert.Proof.Finite.reals _ _ _ _ _ _ _ _ _ _ (fun a => a.elim0) (congrFun (hpre c) (fun a => a.elim0))
  have e0 := (blk0 m c t).trans (congrArg (fun x => colsOf x (head t)) (V_main_arg0 m c))
  have e1 := (blk1 m c t).trans (congrArg (fun x => colsOf x (head t)) (V_main_arg1 m c))
  have e2 := (blk2 m c t).trans (congrArg (fun x => colsOf x (head t)) (V_main_arg2 m c))
  have e3 := (blk3 m c t).trans (congrArg (fun x => rowsAt x (head t)) (V_main_arg3 m c))
  have e4 := (blk4 m c t).trans (congrArg (fun x => rowsAt x (head t)) (V_main_arg4 m c))
  have e5 := (blk5 m c t).trans (V_v20 m c)
  have e6 := (blk6 m c t).trans (V_v22 m c)
  have key := head_of (head t) _ _ _ _ _ _ _ _ _ _ h3 h4 h5 h6 h7 h8 _ _ _ _ _ _ _ e0 e1 e2 e3 e4 e5 e6 y
  exact key

/-- A block that agrees with an array under the head's columns agrees with it at the block's place. -/
theorem place7 (t : Fin cfg0.N) (f : FVec Ideal S8192x128 .bf16) (G : FVec Ideal S8192x1024 .bf16) (h : ∀ y, f y = G (ix2 (y 0) (hcol (head t) (y 1))))
    (y : ((cfg0.win 7).xblock (cfg0.grid.coords t)).Idx) :
    f ((cfg0.win 7).xinj (cfg0.grid.coords t) y) = G (((cfg0.win 7).blk t).view.emb y) := by
  refine (h _).trans ?_
  blk_point [idx0 t]
  exact (hcol_val t _).symm

/-- The result array after the last point. -/
theorem final (hpre : Cert.Pre_KernelIdeal_finite_values (hPre_finite_values := factsPre) m) (c : Dev nD) : (dats m 0 c).arrAt 7 cfg0.N = REFm m c := by
  have h := outsAt_eq m hpre c
  generalize REFm m c = G at h ⊢
  refine (dats m 0 c).arrAt_eq_of_covers 7 _ (by decide +kernel) fun t _ y => ?_
  have e := after0_7 m c t
  generalize (dats m 0 c).after 7 t = f at e ⊢
  have h' : ∀ y, f y = G (ix2 (y 0) (hcol (head t) (y 1))) := fun y => (congrFun e y).trans (h t y)
  clear e h
  rw [cast_eq]
  exact place7 t f G h' y

/-- The run: where the values and the vectors of lambda are finite, the result array ends at the reference's term, and every argument unchanged. -/
theorem run (hpre : Cert.Pre_KernelIdeal_finite_values (hPre_finite_values := factsPre) m) :
    θ_run defs (onTc (τ := τ) (main (F := Ideal))) ⟨m, fun _ => 0, ρ⟩ (fun r => ∀ c : Dev nD,
      r.2.mem ((c.tc : Thread nD τ).loc main_v23) = REFm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).1 7).trans (final m hpre c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩)
    (run_main (F := Ideal) m ρ)

/-- The reference's arguments end unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's run: its result array ends at its term. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v63)
        = REF (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run Cert.ReferenceIdeal.defs _ _).mono (fun r h c => ⟨(h c).1.trans (Cert.ReferenceIdeal.Read.val_main_v63_eq m c), (h c).2⟩)
    (Cert.ReferenceIdeal.Value.run (F := Ideal) m ρ)

/-- Equal arguments give equal terms. -/
theorem REF_congr {x0 y0 : FVec Ideal S8192x1024 .bf16} {x1 y1 : FVec Ideal S256x1024 .bf16} {x2 y2 : FVec Ideal S8192x1024 .bf16} {x3 y3 : FVec Ideal S1024x256 .bf16}
    {x4 y4 : FVec Ideal S1024x8192 .bf16} {x5 y5 x6 y6 x7 y7 x8 y8 : FVec Ideal S1x64 .f32} {x9 y9 : FVec Ideal S1x128 .f32} (e0 : x0 = y0) (e1 : x1 = y1) (e2 : x2 = y2)
    (e3 : x3 = y3) (e4 : x4 = y4) (e5 : x5 = y5) (e6 : x6 = y6) (e7 : x7 = y7) (e8 : x8 = y8) (e9 : x9 = y9) :
    REF x0 x1 x2 x3 x4 x5 x6 x7 x8 x9 = REF y0 y1 y2 y3 y4 y5 y6 y7 y8 y9 := by
  subst e0 e1 e2 e3 e4 e5 e6 e7 e8 e9
  rfl

/-- The attention's result is the reference's, as ideal values, where the values and the vectors of lambda are finite. -/
theorem algebraic : Cert.algebraic_KernelIdeal_ReferenceIdeal_pre_finite_values (hPre_finite_values := factsPre) := by
  intro m g m' g' hpre hagree
  refine ⟨fun c => REFm m c, run m g hpre, (θ_run Cert.ReferenceIdeal.defs _ _).mono (fun r h c => ⟨(h c).1.trans ?_, (h c).2⟩) (run_reference m' g')⟩
  obtain ⟨e0, e1, e2, e3, e4, e5, e6, e7, e8, e9⟩ := hagree c
  unfold REFm
  exact REF_congr e0 e1 e2 e3 e4 e5 e6 e7 e8 e9

end Cert.Proof.KernelIdeal

end
-- ==== Proof.FfnValue.lean ====
module

public import proofs.«01_k».proof.Proof.Gen.FfnIdeal.Frame
public import proofs.«01_k».proof.Proof.Gen.FfnReferenceIdeal.Run
public import proofs.«01_k».proof.Proof.Gen.FfnReferenceIdeal
public import Idealize.ShloMosaic.Lib.Pipeline.ValueKit

@[expose] public section

set_option maxRecDepth 16384

noncomputable section

namespace Cert.Proof.FfnIdeal

open Cert.FfnIdeal Cert.FfnIdeal.Gen
open Idealize.ShloMosaic Idealize.ShloMosaic.TcCoe Idealize.SL.Sem
open Idealize.ShloMosaic.Pipeline (Dat)

/-- The gated hidden rows of every expert, as the reference computes them. -/
abbrev HID (X : FVec Ideal S16x1024x2048 .bf16) (Wg Wu : FVec Ideal S2x16x2048x1024 .f32) : FVec Ideal S16x1024x1024 .bf16 :=
  truncf .bf16 (mulf (mulf
    (Host.dotGeneral Cert.FfnReferenceIdeal.dot_S16x1024x2048_S16x2048x1024_S16x1024x1024_2_1_1_2_0_0 none (extf .f32 X Cert.FfnReferenceIdeal.Gen.bitsLt_bf16_f32)
      (shapeCast Cert.FfnReferenceIdeal.S16x2048x1024 (extractStridedSlice Cert.FfnReferenceIdeal.S1x16x2048x1024 ![0, 0, 0, 0] Wg Cert.FfnReferenceIdeal.Gen.slices_S2x16x2048x1024_S1x16x2048x1024_0_0_0_0) Cert.FfnReferenceIdeal.Gen.shapeCasts_S1x16x2048x1024_S16x2048x1024))
    (Host.divf (broadcastInDim Cert.FfnReferenceIdeal.S16x1024x1024 ![] Cert.FfnReferenceIdeal.Gen.bcast_S_S16x1024x1024 (constant Cert.FfnReferenceIdeal.S_ .f32 0x3F800000#32))
      (addf (broadcastInDim Cert.FfnReferenceIdeal.S16x1024x1024 ![] Cert.FfnReferenceIdeal.Gen.bcast_S_S16x1024x1024 (constant Cert.FfnReferenceIdeal.S_ .f32 0x3F800000#32))
        (Host.exp (Host.negf
          (Host.dotGeneral Cert.FfnReferenceIdeal.dot_S16x1024x2048_S16x2048x1024_S16x1024x1024_2_1_1_2_0_0 none (extf .f32 X Cert.FfnReferenceIdeal.Gen.bitsLt_bf16_f32)
            (shapeCast Cert.FfnReferenceIdeal.S16x2048x1024 (extractStridedSlice Cert.FfnReferenceIdeal.S1x16x2048x1024 ![0, 0, 0, 0] Wg Cert.FfnReferenceIdeal.Gen.slices_S2x16x2048x1024_S1x16x2048x1024_0_0_0_0) Cert.FfnReferenceIdeal.Gen.shapeCasts_S1x16x2048x1024_S16x2048x1024)))))))
    (Host.dotGeneral Cert.FfnReferenceIdeal.dot_S16x1024x2048_S16x2048x1024_S16x1024x1024_2_1_1_2_0_0 none (extf .f32 X Cert.FfnReferenceIdeal.Gen.bitsLt_bf16_f32)
      (shapeCast Cert.FfnReferenceIdeal.S16x2048x1024 (extractStridedSlice Cert.FfnReferenceIdeal.S1x16x2048x1024 ![0, 0, 0, 0] Wu Cert.FfnReferenceIdeal.Gen.slices_S2x16x2048x1024_S1x16x2048x1024_0_0_0_0) Cert.FfnReferenceIdeal.Gen.shapeCasts_S1x16x2048x1024_S16x2048x1024))) Cert.FfnReferenceIdeal.Gen.bitsLt_bf16_f32

/-- The experts' results from their hidden rows: the product with the last weights, the gate, the tokens last. -/
abbrev OUT (H : FVec Ideal S16x1024x1024 .bf16) (Wd : FVec Ideal S2x16x1024x2048 .f32) (G : FVec Ideal S16x1x1024 .f32) : FVec Ideal S16x2048x1024 .bf16 :=
  truncf .bf16 (transpose Cert.FfnReferenceIdeal.S16x2048x1024 [0, 2, 1] (mulf
    (Host.dotGeneral Cert.FfnReferenceIdeal.dot_S16x1024x1024_S16x1024x2048_S16x1024x2048_2_1_1_2_0_0 none (extf .f32 H Cert.FfnReferenceIdeal.Gen.bitsLt_bf16_f32)
      (shapeCast Cert.FfnReferenceIdeal.S16x1024x2048 (extractStridedSlice Cert.FfnReferenceIdeal.S1x16x1024x2048 ![0, 0, 0, 0] Wd Cert.FfnReferenceIdeal.Gen.slices_S2x16x1024x2048_S1x16x1024x2048_0_0_0_0) Cert.FfnReferenceIdeal.Gen.shapeCasts_S1x16x1024x2048_S16x1024x2048))
    (broadcastInDim Cert.FfnReferenceIdeal.S16x1024x2048 ![0, 1, 2] Cert.FfnReferenceIdeal.Gen.bcast_S16x1024x1_S16x1024x2048_0_1_2
      (broadcastInDim Cert.FfnReferenceIdeal.S16x1024x1 ![0, 1] Cert.FfnReferenceIdeal.Gen.bcast_S16x1024_S16x1024x1_0_1
        (shapeCast Cert.FfnReferenceIdeal.S16x1024 G Cert.FfnReferenceIdeal.Gen.shapeCasts_S16x1x1024_S16x1024)))) Cert.FfnReferenceIdeal.Gen.transposes_S16x1024x2048_S16x2048x1024_0_2_1) Cert.FfnReferenceIdeal.Gen.bitsLt_bf16_f32

section Regions
variable (V : (c : Dev nD) → (b : Ref sig .tc) → Buf (Elt Ideal) ((c : Thread nD τ).loc b))

/-- The first call's index maps at every point: the expert, and the half of the hidden columns. -/
theorem idx0 : ∀ t : Fin cfg0.N, win0_0.index t = ![(grid0.coords t 0).val, 0, 0] ∧ win0_1.index t = ![0, (grid0.coords t 0).val, 0, (grid0.coords t 1).val]
    ∧ win0_2.index t = ![0, (grid0.coords t 0).val, 0, (grid0.coords t 1).val] ∧ win0_3.index t = ![(grid0.coords t 0).val, 0, (grid0.coords t 1).val] :=
  (by decide +kernel : ∀ t : Fin grid0.N, _)

/-- The second call's index maps at every point: the expert. -/
theorem idx1 : ∀ t : Fin cfg1.N, win1_0.index t = ![(grid1.coords t 0).val, 0, 0] ∧ win1_1.index t = ![0, (grid1.coords t 0).val, 0, (grid1.coords t 1).val]
    ∧ win1_2.index t = ![(grid1.coords t 0).val, 0, 0] ∧ win1_3.index t = ![(grid1.coords t 0).val, (grid1.coords t 1).val, 0] :=
  (by decide +kernel : ∀ t : Fin grid1.N, _)

set_option maxHeartbeats 1600000 in
/-- What the first body stores at a block index is the hidden rows' value at the array index it sits at. -/
theorem point0 (c : Dev nD) (t : Fin cfg0.N) (y) : k0_pay1 (iblk0 V c 0 t) (iblk0 V c 1 t) (iblk0 V c 2 t) y
    = HID (V c main_arg0) (V c main_arg1) (V c main_arg2) (((cfg0.win 3).blk t).view.emb y) := by
  pointwise [k0_pay1, HID]
  simp only [Ideal.logistic]
  blk_point [iblk0, idx0 t]

/-- The first call's result: the hidden rows. -/
theorem final0 (c : Dev nD) : (dat0 V c).arrAt 3 cfg0.N = HID (V c main_arg0) (V c main_arg1) (V c main_arg2) := by
  refine (dat0 V c).arrAt_eq_of_covers 3 _ (by decide +kernel) fun t _ y => ?_
  blk_simp
  rw [after0_3]; frame_out
  exact point0 V c t y

set_option maxHeartbeats 1600000 in
/-- What the second body stores at a block index is the experts' result at the array index it sits at. -/
theorem point1 (c : Dev nD) (t : Fin cfg1.N) (y) : k1_pay1 (iblk1 V c 0 t) (iblk1 V c 1 t) (iblk1 V c 2 t) y
    = OUT (V c main_v0) (V c main_arg3) (V c main_arg4) (((cfg1.win 3).blk t).view.emb y) := by
  pointwise [k1_pay1, OUT]
  blk_point [iblk1, idx1 t]

/-- The second call's result: the experts' results of the hidden rows it was given. -/
theorem final1 (c : Dev nD) : (dat1 V c).arrAt 3 cfg1.N = OUT (V c main_v0) (V c main_arg3) (V c main_arg4) := by
  refine (dat1 V c).arrAt_eq_of_covers 3 _ (by decide +kernel) fun t _ y => ?_
  blk_simp
  rw [after1_3]; frame_out
  exact point1 V c t y

end Regions

end Cert.Proof.FfnIdeal

end
-- ==== Proof.FfnRun.lean ====
/- The joined gated FFN at the ideal values: its two regions run in turn, and the result array ends at the reference's term of the arguments. -/
module

public import proofs.«01_k».proof.Defs
public import proofs.«01_k».proof.Proof.FfnValue
public import Idealize.ShloMosaic.Lib.Claim

@[expose] public section

set_option maxRecDepth 16384

noncomputable section

namespace Cert.Proof.FfnIdeal

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result array after both regions is the reference's term of the launch contents of the arguments. -/
theorem result (c : Dev nD) : W2 m ρ c (Proc.devRef .tc main_v1)
    = OUT (HID (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) := by
  have h0 : V1 m ρ c main_v0 = HID (m ((c.tc : Thread nD τ).loc main_arg0)) (m ((c.tc : Thread nD τ).loc main_arg1)) (m ((c.tc : Thread nD τ).loc main_arg2)) :=
    (W1_arr m ρ c 3).trans (final0 (V0 m ρ) c)
  have h3 : V1 m ρ c main_arg3 = m ((c.tc : Thread nD τ).loc main_arg3) := W1_args m ρ c main_arg3 (by decide)
  have h4 : V1 m ρ c main_arg4 = m ((c.tc : Thread nD τ).loc main_arg4) := W1_args m ρ c main_arg4 (by decide)
  refine (W2_arr m ρ c 3).trans ((final1 (V1 m ρ) c).trans ?_)
  rw [h0, h3, h4]

set_option backward.isDefEq.respectTransparency.types false in
/-- The run of the joined FFN: the result array ends at the reference's term, and every argument unchanged. -/
theorem run : θ_run defs (onTc (τ := τ) (main (F := Ideal))) ⟨m, fun _ => 0, ρ⟩ (fun r => ∀ c : Dev nD,
      r.2.mem ((c.tc : Thread nD τ).loc main_v1)
        = OUT (HID (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1 (by decide))).trans (result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

/-- The reference's arguments end unchanged; it declares no semaphore. -/
theorem frame_reference : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

/-- The joined FFN's result is the reference's, as ideal values, for every argument. -/
theorem algebraic : Cert.algebraic_FfnIdeal_FfnReferenceIdeal := by
  pair_intro
  · run_from run m g
  · run_from Cert.FfnReferenceIdeal.Value.run m' g'
    rfl

end Cert.Proof.FfnIdeal

end
-- ==== Proof.FfnOneValue.lean ====
module

public import proofs.«01_k».proof.Proof.Gen.FfnOneIdeal.Frame
public import proofs.«01_k».proof.Proof.Gen.FfnOneReferenceIdeal.Run
public import proofs.«01_k».proof.Proof.Gen.FfnOneReferenceIdeal
public import Idealize.ShloMosaic.Lib.Pipeline.ValueKit

@[expose] public section

set_option maxRecDepth 16384

noncomputable section

namespace Cert.Proof.FfnOneIdeal

open Cert.FfnOneIdeal Cert.FfnOneIdeal.Gen
open Idealize.ShloMosaic Idealize.ShloMosaic.TcCoe Idealize.SL.Sem
open Idealize.ShloMosaic.Pipeline (Dat)

/-- The gated hidden rows of every expert, as the reference computes them. -/
abbrev HID (X : FVec Ideal S16x1024x2048 .bf16) (Wg Wu : FVec Ideal S2x16x2048x1024 .f32) : FVec Ideal S16x1024x1024 .bf16 :=
  truncf .bf16 (mulf (mulf
    (Host.dotGeneral Cert.FfnOneReferenceIdeal.dot_S16x1024x2048_S16x2048x1024_S16x1024x1024_2_1_1_2_0_0 none (extf .f32 X Cert.FfnOneReferenceIdeal.Gen.bitsLt_bf16_f32)
      (shapeCast Cert.FfnOneReferenceIdeal.S16x2048x1024 (extractStridedSlice Cert.FfnOneReferenceIdeal.S1x16x2048x1024 ![1, 0, 0, 0] Wg Cert.FfnOneReferenceIdeal.Gen.slices_S2x16x2048x1024_S1x16x2048x1024_1_0_0_0) Cert.FfnOneReferenceIdeal.Gen.shapeCasts_S1x16x2048x1024_S16x2048x1024))
    (Host.divf (broadcastInDim Cert.FfnOneReferenceIdeal.S16x1024x1024 ![] Cert.FfnOneReferenceIdeal.Gen.bcast_S_S16x1024x1024 (constant Cert.FfnOneReferenceIdeal.S_ .f32 0x3F800000#32))
      (addf (broadcastInDim Cert.FfnOneReferenceIdeal.S16x1024x1024 ![] Cert.FfnOneReferenceIdeal.Gen.bcast_S_S16x1024x1024 (constant Cert.FfnOneReferenceIdeal.S_ .f32 0x3F800000#32))
        (Host.exp (Host.negf
          (Host.dotGeneral Cert.FfnOneReferenceIdeal.dot_S16x1024x2048_S16x2048x1024_S16x1024x1024_2_1_1_2_0_0 none (extf .f32 X Cert.FfnOneReferenceIdeal.Gen.bitsLt_bf16_f32)
            (shapeCast Cert.FfnOneReferenceIdeal.S16x2048x1024 (extractStridedSlice Cert.FfnOneReferenceIdeal.S1x16x2048x1024 ![1, 0, 0, 0] Wg Cert.FfnOneReferenceIdeal.Gen.slices_S2x16x2048x1024_S1x16x2048x1024_1_0_0_0) Cert.FfnOneReferenceIdeal.Gen.shapeCasts_S1x16x2048x1024_S16x2048x1024)))))))
    (Host.dotGeneral Cert.FfnOneReferenceIdeal.dot_S16x1024x2048_S16x2048x1024_S16x1024x1024_2_1_1_2_0_0 none (extf .f32 X Cert.FfnOneReferenceIdeal.Gen.bitsLt_bf16_f32)
      (shapeCast Cert.FfnOneReferenceIdeal.S16x2048x1024 (extractStridedSlice Cert.FfnOneReferenceIdeal.S1x16x2048x1024 ![1, 0, 0, 0] Wu Cert.FfnOneReferenceIdeal.Gen.slices_S2x16x2048x1024_S1x16x2048x1024_1_0_0_0) Cert.FfnOneReferenceIdeal.Gen.shapeCasts_S1x16x2048x1024_S16x2048x1024))) Cert.FfnOneReferenceIdeal.Gen.bitsLt_bf16_f32

/-- The experts' results from their hidden rows: the product with the last weights, the gate, the tokens last. -/
abbrev OUT (H : FVec Ideal S16x1024x1024 .bf16) (Wd : FVec Ideal S2x16x1024x2048 .f32) (G : FVec Ideal S16x1x1024 .f32) : FVec Ideal S16x2048x1024 .bf16 :=
  truncf .bf16 (transpose Cert.FfnOneReferenceIdeal.S16x2048x1024 [0, 2, 1] (mulf
    (Host.dotGeneral Cert.FfnOneReferenceIdeal.dot_S16x1024x1024_S16x1024x2048_S16x1024x2048_2_1_1_2_0_0 none (extf .f32 H Cert.FfnOneReferenceIdeal.Gen.bitsLt_bf16_f32)
      (shapeCast Cert.FfnOneReferenceIdeal.S16x1024x2048 (extractStridedSlice Cert.FfnOneReferenceIdeal.S1x16x1024x2048 ![1, 0, 0, 0] Wd Cert.FfnOneReferenceIdeal.Gen.slices_S2x16x1024x2048_S1x16x1024x2048_1_0_0_0) Cert.FfnOneReferenceIdeal.Gen.shapeCasts_S1x16x1024x2048_S16x1024x2048))
    (broadcastInDim Cert.FfnOneReferenceIdeal.S16x1024x2048 ![0, 1, 2] Cert.FfnOneReferenceIdeal.Gen.bcast_S16x1024x1_S16x1024x2048_0_1_2
      (broadcastInDim Cert.FfnOneReferenceIdeal.S16x1024x1 ![0, 1] Cert.FfnOneReferenceIdeal.Gen.bcast_S16x1024_S16x1024x1_0_1
        (shapeCast Cert.FfnOneReferenceIdeal.S16x1024 G Cert.FfnOneReferenceIdeal.Gen.shapeCasts_S16x1x1024_S16x1024)))) Cert.FfnOneReferenceIdeal.Gen.transposes_S16x1024x2048_S16x2048x1024_0_2_1) Cert.FfnOneReferenceIdeal.Gen.bitsLt_bf16_f32

section Regions
variable (V : (c : Dev nD) → (b : Ref sig .tc) → Buf (Elt Ideal) ((c : Thread nD τ).loc b))

/-- The first call's index maps at every point: the expert, and the half of the hidden columns. -/
theorem idx0 : ∀ t : Fin cfg0.N, win0_0.index t = ![(grid0.coords t 0).val, 0, 0] ∧ win0_1.index t = ![1, (grid0.coords t 0).val, 0, (grid0.coords t 1).val]
    ∧ win0_2.index t = ![1, (grid0.coords t 0).val, 0, (grid0.coords t 1).val] ∧ win0_3.index t = ![(grid0.coords t 0).val, 0, (grid0.coords t 1).val] :=
  (by decide +kernel : ∀ t : Fin grid0.N, _)

/-- The second call's index maps at every point: the expert. -/
theorem idx1 : ∀ t : Fin cfg1.N, win1_0.index t = ![(grid1.coords t 0).val, 0, 0] ∧ win1_1.index t = ![1, (grid1.coords t 0).val, 0, (grid1.coords t 1).val]
    ∧ win1_2.index t = ![(grid1.coords t 0).val, 0, 0] ∧ win1_3.index t = ![(grid1.coords t 0).val, (grid1.coords t 1).val, 0] :=
  (by decide +kernel : ∀ t : Fin grid1.N, _)

set_option maxHeartbeats 1600000 in
/-- What the first body stores at a block index is the hidden rows' value at the array index it sits at. -/
theorem point0 (c : Dev nD) (t : Fin cfg0.N) (y) : k0_pay1 (iblk0 V c 0 t) (iblk0 V c 1 t) (iblk0 V c 2 t) y
    = HID (V c main_arg0) (V c main_arg1) (V c main_arg2) (((cfg0.win 3).blk t).view.emb y) := by
  pointwise [k0_pay1, HID]
  simp only [Ideal.logistic]
  blk_point [iblk0, idx0 t]

/-- The first call's result: the hidden rows. -/
theorem final0 (c : Dev nD) : (dat0 V c).arrAt 3 cfg0.N = HID (V c main_arg0) (V c main_arg1) (V c main_arg2) := by
  refine (dat0 V c).arrAt_eq_of_covers 3 _ (by decide +kernel) fun t _ y => ?_
  blk_simp
  rw [after0_3]; frame_out
  exact point0 V c t y

set_option maxHeartbeats 1600000 in
/-- What the second body stores at a block index is the experts' result at the array index it sits at. -/
theorem point1 (c : Dev nD) (t : Fin cfg1.N) (y) : k1_pay1 (iblk1 V c 0 t) (iblk1 V c 1 t) (iblk1 V c 2 t) y
    = OUT (V c main_v0) (V c main_arg3) (V c main_arg4) (((cfg1.win 3).blk t).view.emb y) := by
  pointwise [k1_pay1, OUT]
  blk_point [iblk1, idx1 t]

/-- The second call's result: the experts' results of the hidden rows it was given. -/
theorem final1 (c : Dev nD) : (dat1 V c).arrAt 3 cfg1.N = OUT (V c main_v0) (V c main_arg3) (V c main_arg4) := by
  refine (dat1 V c).arrAt_eq_of_covers 3 _ (by decide +kernel) fun t _ y => ?_
  blk_simp
  rw [after1_3]; frame_out
  exact point1 V c t y

end Regions

end Cert.Proof.FfnOneIdeal

end
-- ==== Proof.FfnOneRun.lean ====
/- The joined gated FFN of layer 1 at the ideal values: its two regions run in turn, and the result array ends at the reference's term of the arguments. -/
module

public import proofs.«01_k».proof.Defs
public import proofs.«01_k».proof.Proof.FfnOneValue
public import Idealize.ShloMosaic.Lib.Claim

@[expose] public section

set_option maxRecDepth 16384

noncomputable section

namespace Cert.Proof.FfnOneIdeal

open Cert.FfnOneIdeal Cert.FfnOneIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result array after both regions is the reference's term of the launch contents of the arguments. -/
theorem result (c : Dev nD) : W2 m ρ c (Proc.devRef .tc main_v1)
    = OUT (HID (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) := by
  have h0 : V1 m ρ c main_v0 = HID (m ((c.tc : Thread nD τ).loc main_arg0)) (m ((c.tc : Thread nD τ).loc main_arg1)) (m ((c.tc : Thread nD τ).loc main_arg2)) :=
    (W1_arr m ρ c 3).trans (final0 (V0 m ρ) c)
  have h3 : V1 m ρ c main_arg3 = m ((c.tc : Thread nD τ).loc main_arg3) := W1_args m ρ c main_arg3 (by decide)
  have h4 : V1 m ρ c main_arg4 = m ((c.tc : Thread nD τ).loc main_arg4) := W1_args m ρ c main_arg4 (by decide)
  refine (W2_arr m ρ c 3).trans ((final1 (V1 m ρ) c).trans ?_)
  rw [h0, h3, h4]

set_option backward.isDefEq.respectTransparency.types false in
/-- The run of the joined FFN: the result array ends at the reference's term, and every argument unchanged. -/
theorem run : θ_run defs (onTc (τ := τ) (main (F := Ideal))) ⟨m, fun _ => 0, ρ⟩ (fun r => ∀ c : Dev nD,
      r.2.mem ((c.tc : Thread nD τ).loc main_v1)
        = OUT (HID (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1 (by decide))).trans (result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

/-- The reference's arguments end unchanged; it declares no semaphore. -/
theorem frame_reference : Cert.quiescent_FfnOneReferenceIdeal := fun m ρ _ =>
  (θ_run Cert.FfnOneReferenceIdeal.defs _ _).mono
    (fun r h => ⟨fun c => (h c).2, Idealize.ShloMosaic.sem_eq_zero_of_no_sems (by decide) r.2⟩)
    (Cert.FfnOneReferenceIdeal.Value.run (F := Ideal) m ρ)

/-- The joined FFN's result is the reference's, as ideal values, for every argument. -/
theorem algebraic : Cert.algebraic_FfnOneIdeal_FfnOneReferenceIdeal := by
  pair_intro
  · run_from run m g
  · run_from Cert.FfnOneReferenceIdeal.Value.run m' g'
    rfl

end Cert.Proof.FfnOneIdeal

end
-- ==== Proof.FinishGate.lean ====
module

public import proofs.«01_k».proof.Proof.Gen.FinishIdeal.Skeleton
public import proofs.«01_k».proof.Proof.Gen.FinishReferenceIdeal.Read
public import Idealize.ShloMosaic.Lib.Pipeline.ValueKit

@[expose] public section

set_option maxRecDepth 16384

noncomputable section

namespace Cert.Proof.FinishIdeal

open Cert.FinishIdeal Cert.FinishIdeal.Gen
open Cert.FinishReferenceIdeal.Read
open Idealize.ShloMosaic Idealize.ShloMosaic.TcCoe Idealize.SL.Sem

/-- A row less its mean. -/
def dev (v : Fin 128 → EReal) (e : Fin 128) : EReal := v e - Ideal.div (∑ e', v e') (Ideal.ofBits .f32 0x43000000#32)

/-- A row over 128 lanes, normed. -/
def normed (v lg lb : Fin 128 → EReal) (e : Fin 128) : EReal :=
  dev v e * Ideal.rsqrt (Ideal.div (∑ e', dev v e' * dev v e') (Ideal.ofBits .f32 0x43000000#32) + Ideal.ofBits .f32 0x358637BD#32) * lg e + lb e

/-- One gated element: a chunk's normed rows mixed by a row of weights, a bias added, times its factor. -/
def gated (v : Fin 128 → Fin 128 → EReal) (lg lb w : Fin 128 → EReal) (b u : EReal) (d : Fin 128) : EReal :=
  u * ((∑ q, w q * normed (v q) lg lb d) + b)

/-- One stored tile of the gate. -/
theorem pay_at (u v : FVec Ideal S128x128 .f32) (lg lb : FVec Ideal S1x128 .f32) (w : FVec Ideal S1x128x128 .bf16) (b : FVec Ideal S1x128x128 .f32) (p d : Fin 128) :
    (k0_pay43 (F := Ideal) u v lg lb w b (ix2 p d) : EReal)
      = gated (fun q e => v (ix2 q e)) (fun e => lg (ix2 0 e)) (fun e => lb (ix2 0 e)) (fun q => w (ix3 0 p q)) (b (ix3 0 p d)) (u (ix2 p d)) d := by
  unfold gated normed dev
  pointwise [k0_pay43]

section
variable (x1 : FVec Ideal Cert.FinishReferenceIdeal.S8192x2048 .f32) (x4 : FVec Ideal Cert.FinishReferenceIdeal.S1x8x128x128 .f32) (x5 : FVec Ideal Cert.FinishReferenceIdeal.S1x8x128 .f32) (x6 x7 : FVec Ideal Cert.FinishReferenceIdeal.S1x1024 .f32)

/-- Position `p` of chunk `c`. -/
def crow (c : Fin 64) (p : Fin 128) : Fin 8192 := ⟨128 * c.val + p.val, by omega⟩

/-- Lane `d` of group `g`. -/
def gcol (g : Fin 8) (d : Fin 128) : Fin 1024 := ⟨128 * g.val + d.val, by omega⟩

/-- Lane `d` of group `g` among the columns of the first half. -/
def ucol (g : Fin 8) (d : Fin 128) : Fin 2048 := ⟨128 * g.val + d.val, by omega⟩

/-- Lane `d` of group `g` among the columns of the second half. -/
def vcol (g : Fin 8) (d : Fin 128) : Fin 2048 := ⟨1024 + (128 * g.val + d.val), by omega⟩

/-- The reference's normed rows at a position. -/
theorem ref_norm (c : Fin 64) (q : Fin 128) (g : Fin 8) (d : Fin 128) :
    (val_main_v30 (F := Ideal) x1 x6 x7 (ix4 c q g d) : EReal)
      = normed (fun e => x1 (ix2 (crow c q) (vcol g e))) (fun e => x6 (ix2 0 (gcol g e))) (fun e => x7 (ix2 0 (gcol g e))) d := by
  have hr : (⟨c.val * 128 + q.val, by omega⟩ : Fin 8192) = crow c q := Fin.ext (by show c.val * 128 + q.val = 128 * c.val + q.val; omega)
  have hv : ∀ e : Fin 128, (⟨1024 + (g.val * 128 + e.val), by omega⟩ : Fin 2048) = vcol g e := fun e => Fin.ext (by show 1024 + (g.val * 128 + e.val) = 1024 + (128 * g.val + e.val); omega)
  have hx : ∀ e : Fin 128, (⟨g.val * 128 + e.val, by omega⟩ : Fin 1024) = gcol g e := fun e => Fin.ext (by show g.val * 128 + e.val = 128 * g.val + e.val; omega)
  unfold normed dev
  pointwise [val_main_v30, val_main_v29, val_main_v28, val_main_v27, val_main_v26, val_main_v25, val_main_v24, val_main_v23, val_main_v22, val_main_v21,
    val_main_v20, val_main_v19, val_main_v18, val_main_v17, val_main_v16, val_main_cst_3, val_main_v15, val_main_v14, val_main_v13, val_main_v12, val_main_cst_2,
    val_main_v11, val_main_v10, val_main_cst_1, val_main_v9, val_main_v8, val_main_v7, val_main_v6, val_main_v5, val_main_cst_0, val_main_v4, val_main_v3, val_main_cst,
    val_main_v2, val_main_v1]
  simp only [hr, hv, hx]

/-- The reference's gate at a position. -/
theorem ref_at (c : Fin 64) (p : Fin 128) (g : Fin 8) (d : Fin 128) :
    (val_main_v42 (F := Ideal) x1 x4 x5 x6 x7 (ix2 (crow c p) (gcol g d)) : EReal)
      = gated (fun q e => x1 (ix2 (crow c q) (vcol g e))) (fun e => x6 (ix2 0 (gcol g e))) (fun e => x7 (ix2 0 (gcol g e)))
          (fun q => x4 (ix4 0 g p q)) (x5 (ix3 0 g p)) (x1 (ix2 (crow c p) (ucol g d))) d := by
  have hc : (⟨(crow c p).val / 128, by show (128 * c.val + p.val) / 128 < 64; omega⟩ : Fin 64) = c := Fin.ext (by show (128 * c.val + p.val) / 128 = c.val; omega)
  have hp : (⟨(crow c p).val % 128, Nat.mod_lt _ (by decide)⟩ : Fin 128) = p := Fin.ext (by show (128 * c.val + p.val) % 128 = p.val; omega)
  have hg : (⟨(gcol g d).val / 128, by show (128 * g.val + d.val) / 128 < 8; omega⟩ : Fin 8) = g := Fin.ext (by show (128 * g.val + d.val) / 128 = g.val; omega)
  have hd : (⟨(gcol g d).val % 128, Nat.mod_lt _ (by decide)⟩ : Fin 128) = d := Fin.ext (by show (128 * g.val + d.val) % 128 = d.val; omega)
  have h0 : (val_main_v0 (F := Ideal) x1 (ix2 (crow c p) (gcol g d)) : EReal) = x1 (ix2 (crow c p) (ucol g d)) := by
    pointwise [val_main_v0]
    rfl
  have h31 : ∀ q : Fin 128, (val_main_v31 (F := Ideal) x4 (ix3 g p q) : EReal) = x4 (ix4 0 g p q) := fun q => by
    pointwise [val_main_v31]
  unfold gated
  refine Eq.trans ?_ (congrArg₂ (fun a b : EReal => a * (b + x5 (ix3 0 g p))) h0 (Finset.sum_congr rfl fun q _ =>
    (congrArg₂ (fun a b : EReal => a * b) (h31 q) (ref_norm x1 x6 x7 c q g d))))
  pointwise [val_main_v42, val_main_v41, val_main_v39, val_main_v38, val_main_v37, val_main_v36, val_main_v35, val_main_v34, val_main_v33, val_main_v32]
  simp only [hc, hp, hg, hd, mul_comm]

end

end Cert.Proof.FinishIdeal

end
-- ==== Proof.FinishTile.lean ====
/- The stored tiles of the attention's rows beside the gate, each read as the reference's joined rows at the place it is stored at. -/
module

public import proofs.«01_k».proof.Proof.FinishGate

@[expose] public section

set_option maxRecDepth 16384

noncomputable section

namespace Cert.Proof.FinishIdeal

open Cert.FinishIdeal Cert.FinishIdeal.Gen
open Cert.FinishReferenceIdeal.Read
open Idealize.ShloMosaic Idealize.ShloMosaic.TcCoe Idealize.SL.Sem

section
variable (x0 : FVec Ideal Cert.FinishReferenceIdeal.S8192x1024 .bf16) (x1 : FVec Ideal Cert.FinishReferenceIdeal.S8192x2048 .f32) (x4 : FVec Ideal Cert.FinishReferenceIdeal.S1x8x128x128 .f32) (x5 : FVec Ideal Cert.FinishReferenceIdeal.S1x8x128 .f32) (x6 x7 : FVec Ideal Cert.FinishReferenceIdeal.S1x1024 .f32)

/-- Row `i` of block `t`. -/
def brow (t : Fin 16) (i : Fin 512) : Fin 8192 := ⟨512 * t.val + i.val, by omega⟩

/-- Chunk `r` of block `t`. -/
def bchunk (t : Fin 16) (r : Fin 4) : Fin 64 := ⟨4 * t.val + r.val, by omega⟩

/-- Block `t` of the reference's joined rows: the attention's columns, then the gate's. -/
def catB (t : Fin 16) (z : S512x2048.Idx) : EReal := val_main_v43 (F := Ideal) x0 x1 x4 x5 x6 x7 (ix2 (brow t (z 0)) (z 1))

/-- The joined rows in the attention's columns. -/
theorem cat_left (i i' : Fin 8192) (j : Fin 1024) (k : Fin 2048) (hi : i'.val = i.val) (h : k.val = j.val) :
    (val_main_v43 (F := Ideal) x0 x1 x4 x5 x6 x7 (ix2 i' k) : EReal) = x0 (ix2 i j) := by
  rw [show i' = i from Fin.ext hi, show k = ⟨j.val, Nat.lt_trans j.isLt (by decide)⟩ from Fin.ext h]
  unfold val_main_v43
  generalize val_main_v42 (F := Ideal) x1 x4 x5 x6 x7 = y
  pointwise [val_main_v40]

/-- The joined rows in the gate's columns. -/
theorem cat_right (i i' : Fin 8192) (j : Fin 1024) (k : Fin 2048) (hi : i'.val = i.val) (h : k.val = 1024 + j.val) :
    (val_main_v43 (F := Ideal) x0 x1 x4 x5 x6 x7 (ix2 i' k) : EReal) = val_main_v42 (F := Ideal) x1 x4 x5 x6 x7 (ix2 i j) := by
  rw [show i' = i from Fin.ext hi, show k = ⟨1024 + j.val, Nat.add_lt_add_left j.isLt 1024⟩ from Fin.ext h]
  unfold val_main_v43
  generalize val_main_v42 (F := Ideal) x1 x4 x5 x6 x7 = y
  pointwise []

/-- A load through a unit rectangle of a matrix, at an entry. -/
theorem ld2 {a b n k : ℕ} {e : EltTy} (X : (⟨2, ![a, b]⟩ : Shape).Idx → Elt Ideal e) (o p : ℕ) (inb) (i : Fin n) (j : Fin k) (hi : o + i.val < a) (hj : p + j.val < b) :
    View.ld X (Rect.unit (s := ⟨2, ![a, b]⟩) ![o, p] ![n, k] inb) (ix2 i j) = X (ix2 ⟨o + i.val, hi⟩ ⟨p + j.val, hj⟩) := by
  rw [View.ld_unit]
  exact congrArg X (funext fun q => match q with
    | ⟨0, _⟩ => rfl
    | ⟨1, _⟩ => rfl)

/-- A load through a unit rectangle of a stack of matrices, at an entry. -/
theorem ld3 {a b c l n k : ℕ} {e : EltTy} (X : (⟨3, ![a, b, c]⟩ : Shape).Idx → Elt Ideal e) (o p r : ℕ) (inb) (h : Fin l) (i : Fin n) (j : Fin k) (hh : o + h.val < a) (hi : p + i.val < b) (hj : r + j.val < c) :
    View.ld X (Rect.unit (s := ⟨3, ![a, b, c]⟩) ![o, p, r] ![l, n, k] inb) (ix3 h i j) = X (ix3 ⟨o + h.val, hh⟩ ⟨p + i.val, hi⟩ ⟨r + j.val, hj⟩) := by
  rw [View.ld_unit]
  exact congrArg X (funext fun q => match q with
    | ⟨0, _⟩ => rfl
    | ⟨1, _⟩ => rfl
    | ⟨2, _⟩ => rfl)

/-- The attention's rows as stored. -/
theorem attn_piece (t : Fin 16) (b0 : FVec Ideal S512x1024 .bf16) (h0 : ∀ i j, (b0 (ix2 i j) : EReal) = x0 (ix2 (brow t i) j)) (inb) (y : S512x1024.Idx) :
    (k0_pay2 (F := Ideal) b0 y : EReal) = catB x0 x1 x4 x5 x6 x7 t ((Rect.unit (s := S512x2048) ![0, 0] ![512, 1024] inb).emb y) := by
  obtain ⟨i, j, rfl⟩ : ∃ (i : Fin 512) (j : Fin 1024), y = ix2 i j := ⟨y 0, y 1, eq_ix2 y⟩
  refine Eq.trans (b := b0 (ix2 i j)) (by pointwise [k0_pay2]) ((h0 i j).trans ?_)
  exact (cat_left x0 x1 x4 x5 x6 x7 (brow t i) _ j _ (by show 512 * t.val + (0 + 1 * i.val) = 512 * t.val + i.val; omega) (by show 0 + 1 * j.val = j.val; omega)).symm

/-- One tile of the gate as stored: chunk `r` of the block, group `g`. -/
theorem tile (t : Fin 16) (b1 : FVec Ideal S512x2048 .f32) (b4 : FVec Ideal S8x128x128 .bf16) (b5 : FVec Ideal S8x128x128 .f32) (b6 b7 : FVec Ideal S1x1024 .f32)
    (h1 : ∀ i j, (b1 (ix2 i j) : EReal) = x1 (ix2 (brow t i) j)) (h4 : ∀ g p q, (b4 (ix3 g p q) : EReal) = x4 (ix4 0 g p q)) (h5 : ∀ g p d, (b5 (ix3 g p d) : EReal) = x5 (ix3 0 g p))
    (h6 : ∀ j, (b6 (ix2 0 j) : EReal) = x6 (ix2 0 j)) (h7 : ∀ j, (b7 (ix2 0 j) : EReal) = x7 (ix2 0 j)) (r : Fin 4) (g : Fin 8) (o u v k : ℕ)
    (ho : o = 128 * r.val) (hu : u = 128 * g.val) (hv : v = 1024 + 128 * g.val) (hk : k = g.val) (i1 i2 i3 i4 i5 i6 i7) (y : S128x128.Idx) :
    (k0_pay43 (F := Ideal) (View.ld b1 (Rect.unit (s := S512x2048) ![o, u] ![128, 128] i1)) (View.ld b1 (Rect.unit (s := S512x2048) ![o, v] ![128, 128] i2))
        (View.ld b6 (Rect.unit (s := S1x1024) ![0, u] ![1, 128] i3)) (View.ld b7 (Rect.unit (s := S1x1024) ![0, u] ![1, 128] i4))
        (View.ld b4 (Rect.unit (s := S8x128x128) ![k, 0, 0] ![1, 128, 128] i5)) (View.ld b5 (Rect.unit (s := S8x128x128) ![k, 0, 0] ![1, 128, 128] i6)) y : EReal)
      = catB x0 x1 x4 x5 x6 x7 t ((Rect.unit (s := S512x2048) ![o, v] ![128, 128] i7).emb y) := by
  subst ho hu hv hk
  obtain ⟨p, d, rfl⟩ : ∃ (p d : Fin 128), y = ix2 p d := ⟨y 0, y 1, eq_ix2 y⟩
  have hrow : ∀ q : Fin 128, brow t ⟨128 * r.val + q.val, by omega⟩ = crow (bchunk t r) q := fun q => Fin.ext (by
    show 512 * t.val + (128 * r.val + q.val) = 128 * (4 * t.val + r.val) + q.val
    omega)
  have e1 : ∀ q e : Fin 128, (View.ld (Val := Elt Ideal) (e' := .f32) b1 (Rect.unit (s := S512x2048) ![128 * r.val, 1024 + 128 * g.val] ![128, 128] i2) (ix2 q e) : EReal) = x1 (ix2 (crow (bchunk t r) q) (vcol g e)) := fun q e => by
    refine (ld2 (e := .f32) b1 _ _ i2 q e (by omega) (by omega)).trans ((h1 _ _).trans ?_)
    rw [hrow q]
    exact congrArg (fun z => x1 (ix2 (crow (bchunk t r) q) z)) (Fin.ext (Nat.add_assoc _ _ _))
  have e0 : (View.ld (Val := Elt Ideal) (e' := .f32) b1 (Rect.unit (s := S512x2048) ![128 * r.val, 128 * g.val] ![128, 128] i1) (ix2 p d) : EReal) = x1 (ix2 (crow (bchunk t r) p) (ucol g d)) := by
    refine (ld2 (e := .f32) b1 _ _ i1 p d (by omega) (by omega)).trans ((h1 _ _).trans ?_)
    rw [hrow p]
    rfl
  have e6 : ∀ e : Fin 128, (View.ld (Val := Elt Ideal) (e' := .f32) b6 (Rect.unit (s := S1x1024) ![0, 128 * g.val] ![1, 128] i3) (ix2 (0 : Fin 1) e) : EReal) = x6 (ix2 0 (gcol g e)) := fun e =>
    (ld2 (e := .f32) b6 _ _ i3 (0 : Fin 1) e (by decide) (by omega)).trans (h6 _)
  have e7 : ∀ e : Fin 128, (View.ld (Val := Elt Ideal) (e' := .f32) b7 (Rect.unit (s := S1x1024) ![0, 128 * g.val] ![1, 128] i4) (ix2 (0 : Fin 1) e) : EReal) = x7 (ix2 0 (gcol g e)) := fun e =>
    (ld2 (e := .f32) b7 _ _ i4 (0 : Fin 1) e (by decide) (by omega)).trans (h7 _)
  have z : ∀ q : Fin 128, (⟨0 + q.val, by omega⟩ : Fin 128) = q := fun q => Fin.ext (Nat.zero_add _)
  have e4 : ∀ q : Fin 128, (View.ld (Val := Elt Ideal) (e' := .bf16) b4 (Rect.unit (s := S8x128x128) ![g.val, 0, 0] ![1, 128, 128] i5) (ix3 (0 : Fin 1) p q) : EReal) = x4 (ix4 0 g p q) := fun q => by
    refine (ld3 (e := .bf16) b4 _ _ _ i5 (0 : Fin 1) p q (by show g.val + 0 < 8; omega) (by omega) (by omega)).trans ?_
    rw [z p, z q]
    exact h4 g p q
  have e5 : (View.ld (Val := Elt Ideal) (e' := .f32) b5 (Rect.unit (s := S8x128x128) ![g.val, 0, 0] ![1, 128, 128] i6) (ix3 (0 : Fin 1) p d) : EReal) = x5 (ix3 0 g p) := by
    refine (ld3 (e := .f32) b5 _ _ _ i6 (0 : Fin 1) p d (by show g.val + 0 < 8; omega) (by omega) (by omega)).trans ?_
    rw [z p, z d]
    exact h5 g p d
  refine (pay_at _ _ _ _ _ _ p d).trans ?_
  simp only [e0, e1, e4, e5, e6, e7]
  refine (ref_at x1 x4 x5 x6 x7 (bchunk t r) p g d).symm.trans ?_
  exact (cat_right x0 x1 x4 x5 x6 x7 (crow (bchunk t r) p) _ (gcol g d) _ (by show 512 * t.val + (128 * r.val + 1 * p.val) = 128 * (4 * t.val + r.val) + p.val; omega)
    (by show 1024 + 128 * g.val + 1 * d.val = 1024 + (128 * g.val + d.val); omega)).symm

end

end Cert.Proof.FinishIdeal

end
-- ==== Proof.FinishValue.lean ====
/- The value of the finishing call's result array: the reference's term of the arguments. -/
module

public import proofs.«01_k».proof.Proof.Gen.FinishIdeal.Frame
public import proofs.«01_k».proof.Proof.FinishTile

@[expose] public section

set_option maxRecDepth 16384

noncomputable section

namespace Cert.Proof.FinishIdeal

open Cert.FinishIdeal Cert.FinishIdeal.Gen
open Cert.FinishReferenceIdeal.Read
open Idealize.ShloMosaic Idealize.ShloMosaic.TcCoe Idealize.ShloMosaic.Tactic Idealize.SL.Sem
open Idealize.ShloMosaic.Pipeline (Dat)

/-- A buffer covered by stores that all agree with one function reads as that function. -/
theorem read_pieces {Val : EltTy → Type} [∀ e, Nonempty (Val e)] {sg : RefSig} {κ : Kind} {sp : Space} {S : Shape} {e : EltTy} (v : View sg κ sp S e) (G : S.Idx → Val e)
    (L : List (View.Piece Val S e)) (g : Fin S.rank → ℕ) (hc : View.Piece.tiledBy L g = true) (hL : ∀ p ∈ L, ∀ x : p.1.shape.Idx, p.2 x = G (p.1.emb x))
    {off : Fin S.rank → ℕ} (h : off = fun _ => 0) (inb) : v.readCov L (Rect.unit off S.size inb).toLoadRect = G := by
  have cov := View.cover_of_tiledBy L g hc
  refine (View.readCov_eq_canon_ld v L _ cov).trans ((View.ld_unit_zero h inb _).trans ?_)
  funext y
  exact View.canon_apply_of_pieces G L hL y (cov y)

/-- Stores that agree with a function, one more before them. -/
theorem pieces_cons {Val : EltTy → Type} {S : Shape} {e : EltTy} {G : S.Idx → Val e} {r : Rect S} {w : r.shape.Idx → Val e} {L : List (View.Piece Val S e)}
    (h : ∀ y, w y = G (r.emb y)) (hL : ∀ p ∈ L, ∀ x : p.1.shape.Idx, p.2 x = G (p.1.emb x)) :
    ∀ p ∈ (⟨r, w⟩ : View.Piece Val S e) :: L, ∀ x : p.1.shape.Idx, p.2 x = G (p.1.emb x) :=
  List.forall_mem_cons.2 ⟨h, hL⟩

variable (m : (ℓ : Loc nD τ sig) → Buf (Elt Ideal) ℓ)

section
variable (x0 : FVec Ideal Cert.FinishReferenceIdeal.S8192x1024 .bf16) (x1 : FVec Ideal Cert.FinishReferenceIdeal.S8192x2048 .f32) (x4 : FVec Ideal Cert.FinishReferenceIdeal.S1x8x128x128 .f32) (x5 : FVec Ideal Cert.FinishReferenceIdeal.S1x8x128 .f32) (x6 x7 : FVec Ideal Cert.FinishReferenceIdeal.S1x1024 .f32)

/-- What the body leaves at a point whose blocks are the arguments' parts: the gate times the product of the joined rows with the weights, added to `x`. -/
theorem outs_eq (c : Dev nD) (t : Fin cfg0.N) (s : Fin 16) (h0 : ∀ i j, ((iblk m c 0 t : FVec Ideal S512x1024 .bf16) (ix2 i j) : EReal) = x0 (ix2 (brow s i) j))
    (h1 : ∀ i j, ((iblk m c 1 t : FVec Ideal S512x2048 .f32) (ix2 i j) : EReal) = x1 (ix2 (brow s i) j))
    (h4 : ∀ g p q, ((iblk m c 4 t : FVec Ideal S8x128x128 .bf16) (ix3 g p q) : EReal) = x4 (ix4 0 g p q))
    (h5 : ∀ g p d, ((iblk m c 5 t : FVec Ideal S8x128x128 .f32) (ix3 g p d) : EReal) = x5 (ix3 0 g p))
    (h6 : ∀ j, ((iblk m c 6 t : FVec Ideal S1x1024 .f32) (ix2 0 j) : EReal) = x6 (ix2 0 j)) (h7 : ∀ j, ((iblk m c 7 t : FVec Ideal S1x1024 .f32) (ix2 0 j) : EReal) = x7 (ix2 0 j)) :
    outsAt0 m c t = k0_pay1 (F := Ideal) (k0_pay83 (F := Ideal) (fun z => catB x0 x1 x4 x5 x6 x7 s z) (iblk m c 3 t)) (iblk m c 2 t) (iblk m c 8 t) := by
  unfold outsAt0
  revert h0 h1 h4 h5 h6 h7
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  intro h0 h1 h4 h5 h6 h7
  have T := tile x0 x1 x4 x5 x6 x7 s b1 b4 b5 b6 b7 h1 h4 h5 h6 h7
  have A := attn_piece x0 x1 x4 x5 x6 x7 s b0 h0
  frame_out
  refine congrArg (fun S => k0_pay1 (F := Ideal) (k0_pay83 (F := Ideal) S b3) b2 b8) ?_
  refine read_pieces _ _ _ ![128, 128] (by sl_kernel_rfl) ?_ (funext fun a => match a with
    | ⟨0, _⟩ => rfl
    | ⟨1, _⟩ => rfl) _
  refine pieces_cons (fun y => T 3 7 _ _ _ _ rfl rfl rfl rfl _ _ _ _ _ _ _ y) ?_
  refine pieces_cons (fun y => T 3 6 _ _ _ _ rfl rfl rfl rfl _ _ _ _ _ _ _ y) ?_
  refine pieces_cons (fun y => T 3 5 _ _ _ _ rfl rfl rfl rfl _ _ _ _ _ _ _ y) ?_
  refine pieces_cons (fun y => T 3 4 _ _ _ _ rfl rfl rfl rfl _ _ _ _ _ _ _ y) ?_
  refine pieces_cons (fun y => T 3 3 _ _ _ _ rfl rfl rfl rfl _ _ _ _ _ _ _ y) ?_
  refine pieces_cons (fun y => T 3 2 _ _ _ _ rfl rfl rfl rfl _ _ _ _ _ _ _ y) ?_
  refine pieces_cons (fun y => T 3 1 _ _ _ _ rfl rfl rfl rfl _ _ _ _ _ _ _ y) ?_
  refine pieces_cons (fun y => T 3 0 _ _ _ _ rfl rfl rfl rfl _ _ _ _ _ _ _ y) ?_
  refine pieces_cons (fun y => T 2 7 _ _ _ _ rfl rfl rfl rfl _ _ _ _ _ _ _ y) ?_
  refine pieces_cons (fun y => T 2 6 _ _ _ _ rfl rfl rfl rfl _ _ _ _ _ _ _ y) ?_
  refine pieces_cons (fun y => T 2 5 _ _ _ _ rfl rfl rfl rfl _ _ _ _ _ _ _ y) ?_
  refine pieces_cons (fun y => T 2 4 _ _ _ _ rfl rfl rfl rfl _ _ _ _ _ _ _ y) ?_
  refine pieces_cons (fun y => T 2 3 _ _ _ _ rfl rfl rfl rfl _ _ _ _ _ _ _ y) ?_
  refine pieces_cons (fun y => T 2 2 _ _ _ _ rfl rfl rfl rfl _ _ _ _ _ _ _ y) ?_
  refine pieces_cons (fun y => T 2 1 _ _ _ _ rfl rfl rfl rfl _ _ _ _ _ _ _ y) ?_
  refine pieces_cons (fun y => T 2 0 _ _ _ _ rfl rfl rfl rfl _ _ _ _ _ _ _ y) ?_
  refine pieces_cons (fun y => T 1 7 _ _ _ _ rfl rfl rfl rfl _ _ _ _ _ _ _ y) ?_
  refine pieces_cons (fun y => T 1 6 _ _ _ _ rfl rfl rfl rfl _ _ _ _ _ _ _ y) ?_
  refine pieces_cons (fun y => T 1 5 _ _ _ _ rfl rfl rfl rfl _ _ _ _ _ _ _ y) ?_
  refine pieces_cons (fun y => T 1 4 _ _ _ _ rfl rfl rfl rfl _ _ _ _ _ _ _ y) ?_
  refine pieces_cons (fun y => T 1 3 _ _ _ _ rfl rfl rfl rfl _ _ _ _ _ _ _ y) ?_
  refine pieces_cons (fun y => T 1 2 _ _ _ _ rfl rfl rfl rfl _ _ _ _ _ _ _ y) ?_
  refine pieces_cons (fun y => T 1 1 _ _ _ _ rfl rfl rfl rfl _ _ _ _ _ _ _ y) ?_
  refine pieces_cons (fun y => T 1 0 _ _ _ _ rfl rfl rfl rfl _ _ _ _ _ _ _ y) ?_
  refine pieces_cons (fun y => T 0 7 _ _ _ _ rfl rfl rfl rfl _ _ _ _ _ _ _ y) ?_
  refine pieces_cons (fun y => T 0 6 _ _ _ _ rfl rfl rfl rfl _ _ _ _ _ _ _ y) ?_
  refine pieces_cons (fun y => T 0 5 _ _ _ _ rfl rfl rfl rfl _ _ _ _ _ _ _ y) ?_
  refine pieces_cons (fun y => T 0 4 _ _ _ _ rfl rfl rfl rfl _ _ _ _ _ _ _ y) ?_
  refine pieces_cons (fun y => T 0 3 _ _ _ _ rfl rfl rfl rfl _ _ _ _ _ _ _ y) ?_
  refine pieces_cons (fun y => T 0 2 _ _ _ _ rfl rfl rfl rfl _ _ _ _ _ _ _ y) ?_
  refine pieces_cons (fun y => T 0 1 _ _ _ _ rfl rfl rfl rfl _ _ _ _ _ _ _ y) ?_
  refine pieces_cons (fun y => T 0 0 _ _ _ _ rfl rfl rfl rfl _ _ _ _ _ _ _ y) ?_
  refine pieces_cons (fun y => A _ y) ?_
  exact fun p hp => absurd hp List.not_mem_nil

end

end Cert.Proof.FinishIdeal

end
-- ==== Proof.FinishRun.lean ====
/- The finishing call at the ideal values: its result array ends at the reference's term of the arguments. -/
module

public import proofs.«01_k».proof.Defs
public import proofs.«01_k».proof.Proof.FinishValue
public import proofs.«01_k».proof.Proof.Gen.FinishReferenceIdeal.Run
public import Idealize.ShloMosaic.Lib.Claim

@[expose] public section

set_option maxRecDepth 16384

noncomputable section

namespace Cert.Proof.FinishIdeal

open Cert.FinishIdeal Cert.FinishIdeal.Gen
open Cert.FinishReferenceIdeal.Read
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## The blocks -/

/-- The block number of a grid point. -/
def pt (t : Fin cfg0.N) : Fin 16 := ⟨t.val, t.isLt⟩

/-- The index maps at every point: the point's rows of the attention, of `uv`, of `x` and of the result; the weights whole. -/
theorem idx0 : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0] ∧ win0_6.index t = ![0, 0] ∧ win0_7.index t = ![0, 0]
    ∧ win0_8.index t = ![0, 0] ∧ win0_9.index t = ![t.val, 0] :=
  (by decide +kernel : ∀ t : Fin grid0.N, _)

/-- The rows of a block, by their number. -/
theorem brow_val (t : Fin cfg0.N) (i : Fin 512) : t.val * 512 + i.val = (brow (pt t) i).val := by
  show t.val * 512 + i.val = 512 * t.val + i.val
  omega

theorem blk0 (c : Dev nD) (t : Fin cfg0.N) (i : Fin 512) (j : Fin 1024) : ((iblk m c 0 t : FVec Ideal S512x1024 .bf16) (ix2 i j) : EReal) = (V m c main_arg0 : FVec Ideal S8192x1024 .bf16) (ix2 (brow (pt t) i) j) := by
  blk_point [iblk, idx0 t]
  exact brow_val t i

theorem blk1 (c : Dev nD) (t : Fin cfg0.N) (i : Fin 512) (j : Fin 2048) : ((iblk m c 1 t : FVec Ideal S512x2048 .f32) (ix2 i j) : EReal) = (V m c main_arg1 : FVec Ideal S8192x2048 .f32) (ix2 (brow (pt t) i) j) := by
  blk_point [iblk, idx0 t]
  exact brow_val t i

theorem blk2 (c : Dev nD) (t : Fin cfg0.N) (i : Fin 512) (j : Fin 2048) : ((iblk m c 2 t : FVec Ideal S512x2048 .f32) (ix2 i j) : EReal) = (V m c main_arg2 : FVec Ideal S8192x2048 .f32) (ix2 (brow (pt t) i) j) := by
  blk_point [iblk, idx0 t]
  exact brow_val t i

theorem blk3 (c : Dev nD) (t : Fin cfg0.N) : iblk m c 3 t = (V m c main_arg3 : FVec Ideal S2048x2048 .bf16) := by
  funext y
  blk_point [iblk, idx0 t]

theorem blk4 (c : Dev nD) (t : Fin cfg0.N) : iblk m c 4 t = (V m c main_v1 : FVec Ideal S8x128x128 .bf16) := by
  funext y
  blk_point [iblk, idx0 t]

theorem blk5 (c : Dev nD) (t : Fin cfg0.N) : iblk m c 5 t = (V m c main_v4 : FVec Ideal S8x128x128 .f32) := by
  funext y
  blk_point [iblk, idx0 t]

theorem blk6 (c : Dev nD) (t : Fin cfg0.N) : iblk m c 6 t = (V m c main_v6 : FVec Ideal S1x1024 .f32) := by
  funext y
  blk_point [iblk, idx0 t]

theorem blk7 (c : Dev nD) (t : Fin cfg0.N) : iblk m c 7 t = (V m c main_v8 : FVec Ideal S1x1024 .f32) := by
  funext y
  blk_point [iblk, idx0 t]

theorem blk8 (c : Dev nD) (t : Fin cfg0.N) : iblk m c 8 t = (V m c main_arg8 : FVec Ideal S1x2048 .f32) := by
  funext y
  blk_point [iblk, idx0 t]

/-! ## The operands the host prepares -/

/-- The mixing weights at the kernel's launch. -/
theorem V_v1 (c : Dev nD) : (V m c main_v1 : FVec Ideal S8x128x128 .bf16)
    = truncf (F := Ideal) (φ := .f32) .bf16 (shapeCast S8x128x128 (m ((c : Thread nD τ).loc main_arg4) : FVec Ideal S1x8x128x128 .f32) shapeCasts_S1x8x128x128_S8x128x128) bitsLt_bf16_f32 := by
  show StableHlo.after hostOps0 _ _ = _
  after_results_simp <;> rfl

/-- The mixing biases at the kernel's launch. -/
theorem V_v4 (c : Dev nD) : (V m c main_v4 : FVec Ideal S8x128x128 .f32)
    = broadcastInDim S8x128x128 ![0, 1, 2] bcast_S8x128x1_S8x128x128_0_1_2 (broadcastInDim S8x128x1 ![0, 1] bcast_S8x128_S8x128x1_0_1
        (shapeCast S8x128 (m ((c : Thread nD τ).loc main_arg5) : FVec Ideal S1x8x128 .f32) shapeCasts_S1x8x128_S8x128)) := by
  show StableHlo.after hostOps0 _ _ = _
  after_results_simp <;> rfl

/-- The norm's gain at the kernel's launch. -/
theorem V_v6 (c : Dev nD) : (V m c main_v6 : FVec Ideal S1x1024 .f32)
    = shapeCast S1x1024 (shapeCast S1024 (m ((c : Thread nD τ).loc main_arg6) : FVec Ideal S1x1024 .f32) shapeCasts_S1x1024_S1024) shapeCasts_S1024_S1x1024 := by
  show StableHlo.after hostOps0 _ _ = _
  after_results_simp <;> rfl

/-- The norm's offset at the kernel's launch. -/
theorem V_v8 (c : Dev nD) : (V m c main_v8 : FVec Ideal S1x1024 .f32)
    = shapeCast S1x1024 (shapeCast S1024 (m ((c : Thread nD τ).loc main_arg7) : FVec Ideal S1x1024 .f32) shapeCasts_S1x1024_S1024) shapeCasts_S1024_S1x1024 := by
  show StableHlo.after hostOps0 _ _ = _
  after_results_simp <;> rfl

theorem weights_at (x : FVec Ideal S1x8x128x128 .f32) (g : Fin 8) (p q : Fin 128) :
    (truncf (F := Ideal) .bf16 (shapeCast S8x128x128 x shapeCasts_S1x8x128x128_S8x128x128) bitsLt_bf16_f32 (ix3 g p q) : EReal) = x (ix4 0 g p q) := by
  pointwise []

theorem biases_at (x : FVec Ideal S1x8x128 .f32) (g : Fin 8) (p d : Fin 128) :
    (broadcastInDim S8x128x128 ![0, 1, 2] bcast_S8x128x1_S8x128x128_0_1_2 (broadcastInDim S8x128x1 ![0, 1] bcast_S8x128_S8x128x1_0_1
        (shapeCast S8x128 x shapeCasts_S1x8x128_S8x128)) (ix3 g p d) : EReal) = x (ix3 0 g p) := by
  pointwise []

theorem vector_at (x : FVec Ideal S1x1024 .f32) (j : Fin 1024) :
    (shapeCast S1x1024 (shapeCast S1024 x shapeCasts_S1x1024_S1024) shapeCasts_S1024_S1x1024 (ix2 0 j) : EReal) = x (ix2 0 j) := by
  pointwise []

/-! ## One block of the result -/

/-- The last lines of the body: the gate times a product, added to `x`. -/
theorem out_at (S : FVec Ideal S512x2048 .bf16) (b3 : FVec Ideal S2048x2048 .bf16) (b2 : FVec Ideal S512x2048 .f32) (b8 : FVec Ideal S1x2048 .f32) (i : Fin 512) (j : Fin 2048) :
    (k0_pay1 (F := Ideal) (k0_pay83 (F := Ideal) S b3) b2 b8 (ix2 i j) : EReal) = b2 (ix2 i j) + b8 (ix2 0 j) * ∑ k : Fin 2048, (S (ix2 i k) : EReal) * b3 (ix2 k j) := by
  pointwise [k0_pay1, k0_pay83]

/-- The reference's result of nine arguments. -/
def REF (x0 : FVec Ideal S8192x1024 .bf16) (x1 : FVec Ideal S8192x2048 .f32) (x2 : FVec Ideal S8192x2048 .f32) (x3 : FVec Ideal S2048x2048 .bf16) (x4 : FVec Ideal S1x8x128x128 .f32) (x5 : FVec Ideal S1x8x128 .f32) (x6 : FVec Ideal S1x1024 .f32) (x7 : FVec Ideal S1x1024 .f32) (x8 : FVec Ideal S1x2048 .f32) : FVec Ideal S8192x2048 .f32 := val_main_v48 (F := Ideal) x0 x1 x2 x3 x4 x5 x6 x7 x8

/-- The reference's result at an entry, over its joined rows. -/
theorem ref_out (x0 : FVec Ideal S8192x1024 .bf16) (x1 : FVec Ideal S8192x2048 .f32) (x2 : FVec Ideal S8192x2048 .f32) (x3 : FVec Ideal S2048x2048 .bf16) (x4 : FVec Ideal S1x8x128x128 .f32) (x5 : FVec Ideal S1x8x128 .f32) (x6 : FVec Ideal S1x1024 .f32) (x7 : FVec Ideal S1x1024 .f32) (x8 : FVec Ideal S1x2048 .f32) (i : Fin 8192) (j : Fin 2048) :
    (REF x0 x1 x2 x3 x4 x5 x6 x7 x8 (ix2 i j) : EReal) = x2 (ix2 i j) + x8 (ix2 0 j) * ∑ k : Fin 2048, (val_main_v43 (F := Ideal) x0 x1 x4 x5 x6 x7 (ix2 i k) : EReal) * x3 (ix2 k j) := by
  unfold REF val_main_v48 val_main_v47 val_main_v45
  generalize val_main_v43 (F := Ideal) x0 x1 x4 x5 x6 x7 = S
  pointwise [val_main_v46, val_main_v44]

/-- The reference's result of the launch contents of the arguments. -/
def REFm (c : Dev nD) : FVec Ideal S8192x2048 .f32 :=
  REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The body's block at a point is the point's rows of the reference. -/
theorem outsAt_eq (c : Dev nD) (t : Fin cfg0.N) (y : S512x2048.Idx) : outsAt0 m c t y = REFm m c (ix2 (brow (pt t) (y 0)) (y 1)) := by
  obtain ⟨i, j, rfl⟩ : ∃ (i : Fin 512) (j : Fin 2048), y = ix2 i j := ⟨y 0, y 1, eq_ix2 y⟩
  have e0 := V_main_arg0 m c
  have e1 := V_main_arg1 m c
  have e2 := V_main_arg2 m c
  have e3 := (blk3 m c t).trans (V_main_arg3 m c)
  have e4 := (blk4 m c t).trans (V_v1 m c)
  have e5 := (blk5 m c t).trans (V_v4 m c)
  have e6 := (blk6 m c t).trans (V_v6 m c)
  have e7 := (blk7 m c t).trans (V_v8 m c)
  have e8 := (blk8 m c t).trans (V_main_arg8 m c)
  refine (congrFun (outs_eq m (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) c t (pt t)
    (fun a b => (blk0 m c t a b).trans (congrFun e0 _)) (fun a b => (blk1 m c t a b).trans (congrFun e1 _))
    (fun g p q => (congrFun e4 _).trans (weights_at _ g p q)) (fun g p d => (congrFun e5 _).trans (biases_at _ g p d))
    (fun b => (congrFun e6 _).trans (vector_at _ b)) (fun b => (congrFun e7 _).trans (vector_at _ b))) (ix2 i j)).trans ?_
  refine (out_at _ _ _ _ i j).trans ?_
  refine Eq.trans ?_ (ref_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (brow (pt t) i) j).symm
  have f2 : ((iblk m c 2 t : FVec Ideal S512x2048 .f32) (ix2 i j) : EReal) = m ((c.tc : Thread nD τ).loc main_arg2) (ix2 (brow (pt t) i) j) := (blk2 m c t i j).trans (congrFun e2 _)
  rw [f2, e3, e8]
  rfl

/-! ## The result array -/

/-- A block that agrees with an array under the point's rows agrees with it at the block's place. -/
theorem place9 (t : Fin cfg0.N) (f : FVec Ideal S512x2048 .f32) (G : FVec Ideal S8192x2048 .f32) (h : ∀ y, f y = G (ix2 (brow (pt t) (y 0)) (y 1)))
    (y : ((cfg0.win 9).xblock (cfg0.grid.coords t)).Idx) :
    f ((cfg0.win 9).xinj (cfg0.grid.coords t) y) = G (((cfg0.win 9).blk t).view.emb y) := by
  refine (h _).trans ?_
  blk_point [idx0 t]
  exact (brow_val t _).symm

/-- The result array after the last point. -/
theorem final (c : Dev nD) : (dats m 0 c).arrAt 9 cfg0.N = REFm m c := by
  have h := outsAt_eq m c
  generalize REFm m c = G at h ⊢
  refine (dats m 0 c).arrAt_eq_of_covers 9 _ (by decide +kernel) fun t _ y => ?_
  have e := after0_9 m c t
  generalize (dats m 0 c).after 9 t = f at e ⊢
  have h' : ∀ y, f y = G (ix2 (brow (pt t) (y 0)) (y 1)) := fun y => (congrFun e y).trans (h t y)
  clear e h
  rw [cast_eq]
  exact place9 t f G h' y

/-- The run: the result array ends at the reference's term, and every argument unchanged. -/
theorem run : θ_run defs (onTc (τ := τ) (main (F := Ideal))) ⟨m, fun _ => 0, ρ⟩ (fun r => ∀ c : Dev nD,
      r.2.mem ((c.tc : Thread nD τ).loc main_v9) = REFm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c)))⟩)
    (run_main (F := Ideal) m ρ)

/-- The reference's arguments end unchanged; it declares no semaphore. -/
theorem frame_reference : Cert.quiescent_FinishReferenceIdeal := fun m ρ _ =>
  (θ_run Cert.FinishReferenceIdeal.defs _ _).mono
    (fun r h => ⟨fun c => (h c).2, Idealize.ShloMosaic.sem_eq_zero_of_no_sems (by decide) r.2⟩)
    (Cert.FinishReferenceIdeal.Value.run (F := Ideal) m ρ)

/-- The reference's run: its result array ends at its term. -/
theorem run_reference (m : (ℓ : Loc Cert.FinishReferenceIdeal.nD Cert.FinishReferenceIdeal.τ Cert.FinishReferenceIdeal.sig) → Buf (Elt Ideal) ℓ) (ρ : Dev Cert.FinishReferenceIdeal.nD → PrngReg) :
    θ_run Cert.FinishReferenceIdeal.defs (onTc (τ := Cert.FinishReferenceIdeal.τ) (Cert.FinishReferenceIdeal.main (F := Ideal))) ⟨m, fun _ => 0, ρ⟩ (fun r => ∀ c : Dev Cert.FinishReferenceIdeal.nD,
      r.2.mem ((c.tc : Thread Cert.FinishReferenceIdeal.nD Cert.FinishReferenceIdeal.τ).loc Cert.FinishReferenceIdeal.main_v48)
        = REF (m ((c.tc : Thread Cert.FinishReferenceIdeal.nD Cert.FinishReferenceIdeal.τ).loc Cert.FinishReferenceIdeal.main_arg0)) (m ((c.tc : Thread Cert.FinishReferenceIdeal.nD Cert.FinishReferenceIdeal.τ).loc Cert.FinishReferenceIdeal.main_arg1)) (m ((c.tc : Thread Cert.FinishReferenceIdeal.nD Cert.FinishReferenceIdeal.τ).loc Cert.FinishReferenceIdeal.main_arg2)) (m ((c.tc : Thread Cert.FinishReferenceIdeal.nD Cert.FinishReferenceIdeal.τ).loc Cert.FinishReferenceIdeal.main_arg3)) (m ((c.tc : Thread Cert.FinishReferenceIdeal.nD Cert.FinishReferenceIdeal.τ).loc Cert.FinishReferenceIdeal.main_arg4)) (m ((c.tc : Thread Cert.FinishReferenceIdeal.nD Cert.FinishReferenceIdeal.τ).loc Cert.FinishReferenceIdeal.main_arg5)) (m ((c.tc : Thread Cert.FinishReferenceIdeal.nD Cert.FinishReferenceIdeal.τ).loc Cert.FinishReferenceIdeal.main_arg6)) (m ((c.tc : Thread Cert.FinishReferenceIdeal.nD Cert.FinishReferenceIdeal.τ).loc Cert.FinishReferenceIdeal.main_arg7)) (m ((c.tc : Thread Cert.FinishReferenceIdeal.nD Cert.FinishReferenceIdeal.τ).loc Cert.FinishReferenceIdeal.main_arg8))
      ∧ r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7)
      ∧ r.2.mem ((c.tc : Thread Cert.FinishReferenceIdeal.nD Cert.FinishReferenceIdeal.τ).loc Cert.FinishReferenceIdeal.main_arg8) = m ((c.tc : Thread Cert.FinishReferenceIdeal.nD Cert.FinishReferenceIdeal.τ).loc Cert.FinishReferenceIdeal.main_arg8)) :=
  (θ_run Cert.FinishReferenceIdeal.defs _ _).mono (fun r h c => ⟨(h c).1.trans (val_main_v48_eq m c), (h c).2⟩)
    (Cert.FinishReferenceIdeal.Value.run (F := Ideal) m ρ)

/-- Equal arguments give equal terms. -/
theorem REF_congr {x0 y0 : FVec Ideal S8192x1024 .bf16} {x1 y1 : FVec Ideal S8192x2048 .f32} {x2 y2 : FVec Ideal S8192x2048 .f32} {x3 y3 : FVec Ideal S2048x2048 .bf16} {x4 y4 : FVec Ideal S1x8x128x128 .f32} {x5 y5 : FVec Ideal S1x8x128 .f32} {x6 y6 : FVec Ideal S1x1024 .f32} {x7 y7 : FVec Ideal S1x1024 .f32} {x8 y8 : FVec Ideal S1x2048 .f32} (e0 : x0 = y0) (e1 : x1 = y1) (e2 : x2 = y2) (e3 : x3 = y3) (e4 : x4 = y4) (e5 : x5 = y5) (e6 : x6 = y6) (e7 : x7 = y7) (e8 : x8 = y8) :
    REF x0 x1 x2 x3 x4 x5 x6 x7 x8 = REF y0 y1 y2 y3 y4 y5 y6 y7 y8 := by
  subst e0 e1 e2 e3 e4 e5 e6 e7 e8
  rfl

/-- The finishing call's result is the reference's, as ideal values, for every argument. -/
theorem algebraic : Cert.algebraic_FinishIdeal_FinishReferenceIdeal := by
  intro m g m' g' _ hagree
  refine ⟨fun c => REFm m c, run m g, (θ_run Cert.FinishReferenceIdeal.defs _ _).mono (fun r h c => ⟨(h c).1.trans ?_, (h c).2⟩) (run_reference m' g')⟩
  obtain ⟨e0, e1, e2, e3, e4, e5, e6, e7, e8⟩ := hagree c
  unfold REFm
  exact REF_congr e0 e1 e2 e3 e4 e5 e6 e7 e8

end Cert.Proof.FinishIdeal

end
-- ==== Proof.lean ====
module

public import proofs.«01_k».proof.Defs
public import proofs.«01_k».proof.Proof.Gen.Ffn.Frame
public import proofs.«01_k».proof.Proof.AttnFrame
public import proofs.«01_k».proof.Proof.AttnRun
public import proofs.«01_k».proof.Proof.FfnRun
public import proofs.«01_k».proof.Proof.Gen.FfnOne.Frame
public import proofs.«01_k».proof.Proof.FfnOneRun
public import proofs.«01_k».proof.Proof.Gen.Finish.Frame
public import proofs.«01_k».proof.Proof.FinishRun
public import Idealize.ShloMosaic.Adequacy
public import Idealize.ShloMosaic.Init

@[expose] public section

noncomputable section

namespace Cert.Proof

open Idealize.ShloMosaic Idealize.SL.Sem

/-- All the claims, under the generated witnesses of the programs' side conditions. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.FfnOne.Gen.facts, Cert.FfnOneIdeal.Gen.facts, Cert.FfnOneReferenceIdeal.Gen.facts,
  Cert.Finish.Gen.facts, Cert.FinishIdeal.Gen.facts, Cert.FinishReferenceIdeal.Gen.facts, Cert.Proof.KernelIdeal.factsPre,
  fun m ρ _ => Cert.Proof.Kernel.frame m ρ,
  fun m ρ _ => Cert.Proof.KernelIdeal.frame m ρ,
  fun m ρ _ => Cert.Proof.KernelIdeal.frame m ρ,
  Cert.Proof.KernelIdeal.frame_reference,
  fun m ρ _ => Cert.Proof.KernelIdeal.frame_reference m ρ trivial,
  fun m ρ _ => Cert.Ffn.Gen.frame m ρ,
  fun m ρ _ => Cert.FfnIdeal.Gen.frame m ρ,
  Cert.Proof.FfnIdeal.frame_reference,
  fun m ρ _ => Cert.FfnOne.Gen.frame m ρ,
  fun m ρ _ => Cert.FfnOneIdeal.Gen.frame m ρ,
  Cert.Proof.FfnOneIdeal.frame_reference,
  fun m ρ _ => Cert.Finish.Gen.frame m ρ,
  fun m ρ _ => Cert.FinishIdeal.Gen.frame m ρ,
  Cert.Proof.FinishIdeal.frame_reference,
  trivial, Cert.Proof.KernelIdeal.algebraic,
  trivial, Cert.Proof.FfnIdeal.algebraic,
  trivial, Cert.Proof.FfnOneIdeal.algebraic,
  trivial, Cert.Proof.FinishIdeal.algebraic⟩

end Cert.Proof

end
